-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones [hPre_finite_with_ones : Cert.Pre_finite_with_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones [hPre_finite_with_ones : Cert.Pre_finite_with_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_with_ones [hKernelIdeal : Cert.KernelIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_with_ones [hReferenceIdeal : Cert.ReferenceIdeal.Facts] [hPre_finite_with_ones : Cert.Pre_finite_with_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_with_ones [hKernelIdeal : Cert.KernelIdeal.Facts] [hReferenceIdeal : Cert.ReferenceIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v38_2)) (v3 : (c : Dev Cert.Kernel2Ideal.nD) → Buf (Elt Ideal) ((c.tc : Thread Cert.Kernel2Ideal.nD Cert.Kernel2Ideal.τ).loc Cert.Kernel2Ideal.main_v38_3)) (v4 : (c : Dev Cert.Kernel2Ideal.nD) → Buf (Elt Ideal) ((c.tc : Thread Cert.Kernel2Ideal.nD Cert.Kernel2Ideal.τ).loc Cert.Kernel2Ideal.main_v38_4)) (v5 : (c : Dev Cert.Kernel2Ideal.nD) → Buf (Elt Ideal) ((c.tc : Thread Cert.Kernel2Ideal.nD Cert.Kernel2Ideal.τ).loc Cert.Kernel2Ideal.main_v38_5)) (v6 : (c : Dev Cert.Kernel2Ideal.nD) → Buf (Elt Ideal) ((c.tc : Thread Cert.Kernel2Ideal.nD Cert.Kernel2Ideal.τ).loc Cert.Kernel2Ideal.main_v38_6)) (v7 : (c : Dev Cert.Kernel2Ideal.nD) → Buf (Elt Ideal) ((c.tc : Thread Cert.Kernel2Ideal.nD Cert.Kernel2Ideal.τ).loc Cert.Kernel2Ideal.main_v38_7)) (v8 : (c : Dev Cert.Kernel2Ideal.nD) → Buf (Elt Ideal) ((c.tc : Thread Cert.Kernel2Ideal.nD Cert.Kernel2Ideal.τ).loc Cert.Kernel2Ideal.main_v38_8)) (v9 : (c : Dev Cert.Kernel2Ideal.nD) → Buf (Elt Ideal) ((c.tc : Thread Cert.Kernel2Ideal.nD Cert.Kernel2Ideal.τ).loc Cert.Kernel2Ideal.main_v38_9)) (v10 : (c : Dev Cert.Kernel2Ideal.nD) → Buf (Elt Ideal) ((c.tc : Thread Cert.Kernel2Ideal.nD Cert.Kernel2Ideal.τ).loc Cert.Kernel2Ideal.main_v38_10)) (v11 : (c : Dev Cert.Kernel2Ideal.nD) → Buf (Elt Ideal) ((c.tc : Thread Cert.Kernel2Ideal.nD Cert.Kernel2Ideal.τ).loc Cert.Kernel2Ideal.main_v38_11)) (v12 : (c : Dev Cert.Kernel2Ideal.nD) → Buf (Elt Ideal) ((c.tc : Thread Cert.Kernel2Ideal.nD Cert.Kernel2Ideal.τ).loc Cert.Kernel2Ideal.main_v38_12)) (v13 : (c : Dev Cert.Kernel2Ideal.nD) → Buf (Elt Ideal) ((c.tc : Thread Cert.Kernel2Ideal.nD Cert.Kernel2Ideal.τ).loc Cert.Kernel2Ideal.main_v38_13)) (v14 : (c : Dev Cert.Kernel2Ideal.nD) → Buf (Elt Ideal) ((c.tc : Thread Cert.Kernel2Ideal.nD Cert.Kernel2Ideal.τ).loc Cert.Kernel2Ideal.main_v38_14)) (v15 : (c : Dev Cert.Kernel2Ideal.nD) → Buf (Elt Ideal) ((c.tc : Thread Cert.Kernel2Ideal.nD Cert.Kernel2Ideal.τ).loc Cert.Kernel2Ideal.main_v38_15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v38_2) = v2 c
          ∧ r.2.mem ((c.tc : Thread Cert.Kernel2Ideal.nD Cert.Kernel2Ideal.τ).loc Cert.Kernel2Ideal.main_v38_3) = v3 c
          ∧ r.2.mem ((c.tc : Thread Cert.Kernel2Ideal.nD Cert.Kernel2Ideal.τ).loc Cert.Kernel2Ideal.main_v38_4) = v4 c
          ∧ r.2.mem ((c.tc : Thread Cert.Kernel2Ideal.nD Cert.Kernel2Ideal.τ).loc Cert.Kernel2Ideal.main_v38_5) = v5 c
          ∧ r.2.mem ((c.tc : Thread Cert.Kernel2Ideal.nD Cert.Kernel2Ideal.τ).loc Cert.Kernel2Ideal.main_v38_6) = v6 c
          ∧ r.2.mem ((c.tc : Thread Cert.Kernel2Ideal.nD Cert.Kernel2Ideal.τ).loc Cert.Kernel2Ideal.main_v38_7) = v7 c
          ∧ r.2.mem ((c.tc : Thread Cert.Kernel2Ideal.nD Cert.Kernel2Ideal.τ).loc Cert.Kernel2Ideal.main_v38_8) = v8 c
          ∧ r.2.mem ((c.tc : Thread Cert.Kernel2Ideal.nD Cert.Kernel2Ideal.τ).loc Cert.Kernel2Ideal.main_v38_9) = v9 c
          ∧ r.2.mem ((c.tc : Thread Cert.Kernel2Ideal.nD Cert.Kernel2Ideal.τ).loc Cert.Kernel2Ideal.main_v38_10) = v10 c
          ∧ r.2.mem ((c.tc : Thread Cert.Kernel2Ideal.nD Cert.Kernel2Ideal.τ).loc Cert.Kernel2Ideal.main_v38_11) = v11 c
          ∧ r.2.mem ((c.tc : Thread Cert.Kernel2Ideal.nD Cert.Kernel2Ideal.τ).loc Cert.Kernel2Ideal.main_v38_12) = v12 c
          ∧ r.2.mem ((c.tc : Thread Cert.Kernel2Ideal.nD Cert.Kernel2Ideal.τ).loc Cert.Kernel2Ideal.main_v38_13) = v13 c
          ∧ r.2.mem ((c.tc : Thread Cert.Kernel2Ideal.nD Cert.Kernel2Ideal.τ).loc Cert.Kernel2Ideal.main_v38_14) = v14 c
          ∧ r.2.mem ((c.tc : Thread Cert.Kernel2Ideal.nD Cert.Kernel2Ideal.τ).loc Cert.Kernel2Ideal.main_v38_15) = v15 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v43) = v3 c
          ∧ r.2.mem ((c.tc : Thread Cert.Reference2Ideal.nD Cert.Reference2Ideal.τ).loc Cert.Reference2Ideal.main_v45) = v4 c
          ∧ r.2.mem ((c.tc : Thread Cert.Reference2Ideal.nD Cert.Reference2Ideal.τ).loc Cert.Reference2Ideal.main_v46) = v5 c
          ∧ r.2.mem ((c.tc : Thread Cert.Reference2Ideal.nD Cert.Reference2Ideal.τ).loc Cert.Reference2Ideal.main_v48) = v6 c
          ∧ r.2.mem ((c.tc : Thread Cert.Reference2Ideal.nD Cert.Reference2Ideal.τ).loc Cert.Reference2Ideal.main_v26) = v7 c
          ∧ r.2.mem ((c.tc : Thread Cert.Reference2Ideal.nD Cert.Reference2Ideal.τ).loc Cert.Reference2Ideal.main_v27) = v8 c
          ∧ r.2.mem ((c.tc : Thread Cert.Reference2Ideal.nD Cert.Reference2Ideal.τ).loc Cert.Reference2Ideal.main_v28) = v9 c
          ∧ r.2.mem ((c.tc : Thread Cert.Reference2Ideal.nD Cert.Reference2Ideal.τ).loc Cert.Reference2Ideal.main_v30) = v10 c
          ∧ r.2.mem ((c.tc : Thread Cert.Reference2Ideal.nD Cert.Reference2Ideal.τ).loc Cert.Reference2Ideal.main_v31) = v11 c
          ∧ r.2.mem ((c.tc : Thread Cert.Reference2Ideal.nD Cert.Reference2Ideal.τ).loc Cert.Reference2Ideal.main_v33) = v12 c
          ∧ r.2.mem ((c.tc : Thread Cert.Reference2Ideal.nD Cert.Reference2Ideal.τ).loc Cert.Reference2Ideal.main_v34) = v13 c
          ∧ r.2.mem ((c.tc : Thread Cert.Reference2Ideal.nD Cert.Reference2Ideal.τ).loc Cert.Reference2Ideal.main_v35) = v14 c
          ∧ r.2.mem ((c.tc : Thread Cert.Reference2Ideal.nD Cert.Reference2Ideal.τ).loc Cert.Reference2Ideal.main_v42) = v15 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_with_ones : Cert.Pre_finite_with_ones.Facts),
    quiescent_Kernel (hKernel := hKernel)
    ∧ quiescent_KernelIdeal (hKernelIdeal := hKernelIdeal)
    ∧ quiescent_KernelIdeal_pre_finite_with_ones (hKernelIdeal := hKernelIdeal) (hPre_finite_with_ones := hPre_finite_with_ones)
    ∧ quiescent_ReferenceIdeal (hReferenceIdeal := hReferenceIdeal)
    ∧ quiescent_ReferenceIdeal_pre_finite_with_ones (hReferenceIdeal := hReferenceIdeal) (hPre_finite_with_ones := hPre_finite_with_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_with_ones (hKernelIdeal := hKernelIdeal) (hReferenceIdeal := hReferenceIdeal) (hPre_finite_with_ones := hPre_finite_with_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_with_ones.lean ====
abbrev S4x8192x512 : Shape := ⟨3, ![4, 8192, 512]⟩
abbrev S_ : Shape := ⟨0, ![]⟩
abbrev S4x8192x4 : Shape := ⟨3, ![4, 8192, 4]⟩

class Facts : Prop where
  bcast_S_S4x8192x512 : S_.BroadcastsInDim S4x8192x512 (![] : Fin 0 → Fin S4x8192x512.rank)
  slicesBy_S4x8192x512_S4x8192x4_0s1_0s1_64s128 : S4x8192x512.SlicesBy (![0, 0, 64] : Fin 3 → Nat) ![1, 1, 128] S4x8192x4
  bcast_S_S4x8192x4 : S_.BroadcastsInDim S4x8192x4 (![] : Fin 0 → Fin S4x8192x4.rank)

variable [Facts]

def fn {F : FTy → Type} [FloatOps F] (main_arg0 : FVec F S4x8192x512 .bf16) (main_arg1 : FVec F S4x8192x512 .bf16) (main_arg2 : FVec F S4x8192x512 .bf16) : IVec S4x8192x512 1 × IVec S4x8192x512 1 × IVec S4x8192x4 1 :=
  let main_v0 : FVec F S4x8192x512 .bf16 := Host.absf main_arg0
  let main_cst : FVec F S_ .bf16 := constant S_ .bf16 0x7F80#16
  let main_v1 : FVec F S4x8192x512 .bf16 := broadcastInDim S4x8192x512 ![] bcast_S_S4x8192x512 main_cst
  let main_v2 : IVec S4x8192x512 1 := cmpf .olt main_v0 main_v1
  let main_v3 : FVec F S4x8192x512 .bf16 := Host.absf main_arg1
  let main_cst_0 : FVec F S_ .bf16 := constant S_ .bf16 0x7F80#16
  let main_v4 : FVec F S4x8192x512 .bf16 := broadcastInDim S4x8192x512 ![] bcast_S_S4x8192x512 main_cst_0
  let main_v5 : IVec S4x8192x512 1 := cmpf .olt main_v3 main_v4
  let main_v6 : FVec F S4x8192x4 .bf16 := (Host.slice S4x8192x4 ![0, 0, 64] ![1, 1, 128] · slicesBy_S4x8192x512_S4x8192x4_0s1_0s1_64s128) main_arg2
  let main_cst_1 : FVec F S_ .bf16 := constant S_ .bf16 0x3F80#16
  let main_v7 : FVec F S4x8192x4 .bf16 := broadcastInDim S4x8192x4 ![] bcast_S_S4x8192x4 main_cst_1
  let main_v8 : IVec S4x8192x4 1 := cmpf .oeq main_v6 main_v7
  (main_v2, main_v5, main_v8)
-- ==== Kernel.lean ====
abbrev S4x8192x512 : Shape := ⟨3, ![4, 8192, 512]⟩
abbrev S4x8192x256 : Shape := ⟨3, ![4, 8192, 256]⟩
abbrev S1x256x512 : Shape := ⟨3, ![1, 256, 512]⟩
abbrev S1x8192x512 : Shape := ⟨3, ![1, 8192, 512]⟩
abbrev S1x256x256 : Shape := ⟨3, ![1, 256, 256]⟩
abbrev S4x256x1 : Shape := ⟨3, ![4, 256, 1]⟩
abbrev S4x256x128 : Shape := ⟨3, ![4, 256, 128]⟩
abbrev S256x1024 : Shape := ⟨2, ![256, 1024]⟩
abbrev S1x256x128 : Shape := ⟨3, ![1, 256, 128]⟩
abbrev S256x128 : Shape := ⟨2, ![256, 128]⟩
abbrev S1x1024x128 : Shape := ⟨3, ![1, 1024, 128]⟩
abbrev S1024x128 : Shape := ⟨2, ![1024, 128]⟩
abbrev S1x256x1 : Shape := ⟨3, ![1, 256, 1]⟩
abbrev S256x1 : Shape := ⟨2, ![256, 1]⟩
abbrev S256 : Shape := ⟨1, ![256]⟩
abbrev S256x64 : Shape := ⟨2, ![256, 64]⟩
abbrev S256x256 : Shape := ⟨2, ![256, 256]⟩

abbrev nBuf : Space → Nat
  | .hbm => 4
  | .vmem => 10
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x256, .f32⟩
  | .local _ .vmem, ⟨0, _⟩ => ⟨S1x256x512, .bf16⟩
  | .local _ .vmem, ⟨1, _⟩ => ⟨S1x256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x256x256, .f32⟩
  | .local _ .vmem, ⟨7, _⟩ => ⟨S1x256x256, .f32⟩
  | .local _ .vmem, ⟨8, _⟩ => ⟨S4x256x1, .f32⟩
  | .local _ .vmem, ⟨9, _⟩ => ⟨S4x256x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_21 : BitVec 32 := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let v39 : BitVec 32 := Scalar.subi v22 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_23 : BitVec 32 := 1#32
  ⟨c0_i32_21, v43, c1_i32_23⟩
def k0_mult1 (i : grid0.Coords) (k0_t1 : Fin (k0_t1_loop i).trips) : BitVec 32 :=
  let c0_i32_21 : BitVec 32 := 0#32
  let c1_i32_23 : BitVec 32 := 1#32
  let arg8 : BitVec 32 := Scf.iv c0_i32_21 c1_i32_23 k0_t1
  let c1024_i32_134 : BitVec 32 := 1024#32
  let v230 : BitVec 32 := Scalar.muli arg8 c1024_i32_134
  v230
def k0_off1 (i : grid0.Coords) (k0_t1 : Fin (k0_t1_loop i).trips) : Fin 3 → Nat :=
  let c0_135 : Index := 0#32
  let c0_i32_21 : BitVec 32 := 0#32
  let c1_i32_23 : BitVec 32 := 1#32
  let arg8 : BitVec 32 := Scf.iv c0_i32_21 c1_i32_23 k0_t1
  let c1024_i32_134 : BitVec 32 := 1024#32
  let v230 : BitVec 32 := Scalar.muli arg8 c1024_i32_134
  let v231 : BitVec 32 := v230
  let v232 : Index := Scalar.indexCast v231
  let c0_136 : Index := 0#32
  ![0, v232.toNat, 0]
def k0_off2 (i : grid0.Coords) (k0_t1 : Fin (k0_t1_loop i).trips) : Fin 3 → Nat :=
  let c0_138 : Index := 0#32
  let c0_i32_21 : BitVec 32 := 0#32
  let c1_i32_23 : BitVec 32 := 1#32
  let arg8 : BitVec 32 := Scf.iv c0_i32_21 c1_i32_23 k0_t1
  let c1024_i32_134 : BitVec 32 := 1024#32
  let v230 : BitVec 32 := Scalar.muli arg8 c1024_i32_134
  let v231 : BitVec 32 := v230
  let v236 : Index := Scalar.indexCast v231
  let c128_139 : Index := 128#32
  ![0, v236.toNat, 128]
def k0_off3 (i : grid0.Coords) (k0_t1 : Fin (k0_t1_loop i).trips) : Fin 3 → Nat :=
  let c0_157 : Index := 0#32
  let c0_i32_21 : BitVec 32 := 0#32
  let c1_i32_23 : BitVec 32 := 1#32
  let arg8 : BitVec 32 := Scf.iv c0_i32_21 c1_i32_23 k0_t1
  let c1024_i32_134 : BitVec 32 := 1024#32
  let v230 : BitVec 32 := Scalar.muli arg8 c1024_i32_134
  let v231 : BitVec 32 := v230
  let v266 : Index := Scalar.indexCast v231
  let c256_158 : Index := 256#32
  ![0, v266.toNat, 256]
def k0_off4 (i : grid0.Coords) (k0_t1 : Fin (k0_t1_loop i).trips) : Fin 3 → Nat :=
  let c0_176 : Index := 0#32
  let c0_i32_21 : BitVec 32 := 0#32
  let c1_i32_23 : BitVec 32 := 1#32
  let arg8 : BitVec 32 := Scf.iv c0_i32_21 c1_i32_23 k0_t1
  let c1024_i32_134 : BitVec 32 := 1024#32
  let v230 : BitVec 32 := Scalar.muli arg8 c1024_i32_134
  let v231 : BitVec 32 := v230
  let v296 : Index := Scalar.indexCast v231
  let c384_177 : Index := 384#32
  ![0, v296.toNat, 384]
@[reducible] def k0_t2_loop (i : grid0.Coords) : Scf.Loop 32 :=
  let c0_i32_21 : BitVec 32 := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let v39 : BitVec 32 := Scalar.subi v22 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let v40 : BitVec 32 := Scalar.addi c0_i32_21 v39
  let c1_i32_24 : BitVec 32 := 1#32
  ⟨v43, v40, c1_i32_24⟩
def k0_mult2 (i : grid0.Coords) (k0_t2 : Fin (k0_t2_loop i).trips) : BitVec 32 :=
  let c0_i32_21 : BitVec 32 := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let v39 : BitVec 32 := Scalar.subi v22 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg8 : BitVec 32 := Scf.iv v43 c1_i32_24 k0_t2
  let c1024_i32_134 : BitVec 32 := 1024#32
  let v230 : BitVec 32 := Scalar.muli arg8 c1024_i32_134
  v230
def k0_off5 (i : grid0.Coords) (k0_t2 : Fin (k0_t2_loop i).trips) : Fin 3 → Nat :=
  let c0_135 : Index := 0#32
  let c0_i32_21 : BitVec 32 := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let v39 : BitVec 32 := Scalar.subi v22 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg8 : BitVec 32 := Scf.iv v43 c1_i32_24 k0_t2
  let c1024_i32_134 : BitVec 32 := 1024#32
  let v230 : BitVec 32 := Scalar.muli arg8 c1024_i32_134
  let v231 : BitVec 32 := v230
  let v232 : Index := Scalar.indexCast v231
  let c0_136 : Index := 0#32
  ![0, v232.toNat, 0]
def k0_off6 (i : grid0.Coords) (k0_t2 : Fin (k0_t2_loop i).trips) : Fin 3 → Nat :=
  let c0_138 : Index := 0#32
  let c0_i32_21 : BitVec 32 := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let v39 : BitVec 32 := Scalar.subi v22 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg8 : BitVec 32 := Scf.iv v43 c1_i32_24 k0_t2
  let c1024_i32_134 : BitVec 32 := 1024#32
  let v230 : BitVec 32 := Scalar.muli arg8 c1024_i32_134
  let v231 : BitVec 32 := v230
  let v236 : Index := Scalar.indexCast v231
  let c128_139 : Index := 128#32
  ![0, v236.toNat, 128]
def k0_off7 (i : grid0.Coords) (k0_t2 : Fin (k0_t2_loop i).trips) : Fin 3 → Nat :=
  let c0_157 : Index := 0#32
  let c0_i32_21 : BitVec 32 := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let v39 : BitVec 32 := Scalar.subi v22 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg8 : BitVec 32 := Scf.iv v43 c1_i32_24 k0_t2
  let c1024_i32_134 : BitVec 32 := 1024#32
  let v230 : BitVec 32 := Scalar.muli arg8 c1024_i32_134
  let v231 : BitVec 32 := v230
  let v266 : Index := Scalar.indexCast v231
  let c256_158 : Index := 256#32
  ![0, v266.toNat, 256]
def k0_off8 (i : grid0.Coords) (k0_t2 : Fin (k0_t2_loop i).trips) : Fin 3 → Nat :=
  let c0_176 : Index := 0#32
  let c0_i32_21 : BitVec 32 := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let v39 : BitVec 32 := Scalar.subi v22 c0_i32_21
  let c1_i32_22 : BitVec 32 := 1#32
  let v41 : BitVec 32 := Scalar.divsi v39 c1_i32_22
  let v42 : BitVec 32 := Scalar.muli v41 c1_i32_22
  let v43 : BitVec 32 := Scalar.addi c0_i32_21 v42
  let c1_i32_24 : BitVec 32 := 1#32
  let arg8 : BitVec 32 := Scf.iv v43 c1_i32_24 k0_t2
  let c1024_i32_134 : BitVec 32 := 1024#32
  let v230 : BitVec 32 := Scalar.muli arg8 c1024_i32_134
  let v231 : BitVec 32 := v230
  let v296 : Index := Scalar.indexCast v231
  let c384_177 : Index := 384#32
  ![0, v296.toNat, 384]
def k0_mult3 (i : grid0.Coords) : BitVec 32 :=
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let c1024_i32_25 : BitVec 32 := 1024#32
  let v44 : BitVec 32 := Scalar.muli v22 c1024_i32_25
  v44
def k0_off9 (i : grid0.Coords) : Fin 3 → Nat :=
  let c0_26 : Index := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let c1024_i32_25 : BitVec 32 := 1024#32
  let v44 : BitVec 32 := Scalar.muli v22 c1024_i32_25
  let v45 : BitVec 32 := v44
  let v46 : Index := Scalar.indexCast v45
  let c0_27 : Index := 0#32
  ![0, v46.toNat, 0]
def k0_off10 (i : grid0.Coords) : Fin 3 → Nat :=
  let c0_30 : Index := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let c1024_i32_25 : BitVec 32 := 1024#32
  let v44 : BitVec 32 := Scalar.muli v22 c1024_i32_25
  let v45 : BitVec 32 := v44
  let v55 : Index := Scalar.indexCast v45
  let c128_31 : Index := 128#32
  ![0, v55.toNat, 128]
def k0_off11 (i : grid0.Coords) : Fin 3 → Nat :=
  let c0_50 : Index := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let c1024_i32_25 : BitVec 32 := 1024#32
  let v44 : BitVec 32 := Scalar.muli v22 c1024_i32_25
  let v45 : BitVec 32 := v44
  let v90 : Index := Scalar.indexCast v45
  let c256_51 : Index := 256#32
  ![0, v90.toNat, 256]
def k0_off12 (i : grid0.Coords) : Fin 3 → Nat :=
  let c0_69 : Index := 0#32
  let arg1 : BitVec 32 := BitVec.ofNat 32 (i 1).val
  let c256_i32_0 : BitVec 32 := 256#32
  let v5 : BitVec 32 := Scalar.muli arg1 c256_i32_0
  let c0_i32 : BitVec 32 := 0#32
  let v7 : BitVec 1 := Scalar.cmpi .sgt v5 c0_i32
  let v8 : BitVec 32 := Scalar.extui v7
  let c0_i32_1 : BitVec 32 := 0#32
  let v9 : BitVec 1 := Scalar.cmpi .slt v5 c0_i32_1
  let v10 : BitVec 32 := Scalar.extui v9
  let v11 : BitVec 32 := Scalar.subi v8 v10
  let c1024_i32 : BitVec 32 := 1024#32
  let c0_i32_2 : BitVec 32 := 0#32
  let v12 : BitVec 1 := Scalar.cmpi .sgt c1024_i32 c0_i32_2
  let v13 : BitVec 32 := Scalar.extui v12
  let c0_i32_3 : BitVec 32 := 0#32
  let v14 : BitVec 1 := Scalar.cmpi .slt c1024_i32 c0_i32_3
  let v15 : BitVec 32 := Scalar.extui v14
  let v16 : BitVec 32 := Scalar.subi v13 v15
  let v17 : BitVec 1 := Scalar.cmpi .ne v11 v16
  let v18 : BitVec 32 := Scalar.remsi v5 c1024_i32
  let c0_i32_4 : BitVec 32 := 0#32
  let v19 : BitVec 1 := Scalar.cmpi .ne v18 c0_i32_4
  let v20 : BitVec 1 := Scalar.andi v17 v19
  let v6 : BitVec 32 := Scalar.divsi v5 c1024_i32
  let c1_i32 : BitVec 32 := 1#32
  let v21 : BitVec 32 := Scalar.subi v6 c1_i32
  let v22 : BitVec 32 := Scalar.select v20 v21 v6
  let c1024_i32_25 : BitVec 32 := 1024#32
  let v44 : BitVec 32 := Scalar.muli v22 c1024_i32_25
  let v45 : BitVec 32 := v44
  let v125 : Index := Scalar.indexCast v45
  let c384_70 : Index := 384#32
  ![0, v125.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8192x512 : Shape := ⟨3, ![4, 8192, 512]⟩
abbrev S4x8192x4x128 : Shape := ⟨4, ![4, 8192, 4, 128]⟩
abbrev S4x4x8192x128 : Shape := ⟨4, ![4, 4, 8192, 128]⟩
abbrev S4x8192x4x64 : Shape := ⟨4, ![4, 8192, 4, 64]⟩
abbrev S4x4x8192x64 : Shape := ⟨4, ![4, 4, 8192, 64]⟩
abbrev S8192 : Shape := ⟨1, ![8192]⟩
abbrev S4x4x8192x8192 : Shape := ⟨4, ![4, 4, 8192, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x4x8192 : Shape := ⟨3, ![4, 4, 8192]⟩
abbrev S4x4x8192x1 : Shape := ⟨4, ![4, 4, 8192, 1]⟩
abbrev S4x8192x256 : Shape := ⟨3, ![4, 8192, 256]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .f32⟩
  | .hbm, ⟨4, _⟩ => ⟨S4x8192x4x128, .f32⟩
  | .hbm, ⟨5, _⟩ => ⟨S4x4x8192x128, .f32⟩
  | .hbm, ⟨6, _⟩ => ⟨S4x8192x512, .f32⟩
  | .hbm, ⟨7, _⟩ => ⟨S4x8192x4x128, .f32⟩
  | .hbm, ⟨8, _⟩ => ⟨S4x4x8192x128, .f32⟩
  | .hbm, ⟨9, _⟩ => ⟨S4x8192x512, .f32⟩
  | .hbm, ⟨10, _⟩ => ⟨S4x8192x4x128, .f32⟩
  | .hbm, ⟨11, _⟩ => ⟨S4x8192x4x64, .f32⟩
  | .hbm, ⟨12, _⟩ => ⟨S4x4x8192x64, .f32⟩
  | .hbm, ⟨13, _⟩ => ⟨S8192, .i32⟩
  | .hbm, ⟨14, _⟩ => ⟨S4x4x8192x8192, .f32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S4x4x8192x8192, .i1⟩
  | .hbm, ⟨23, _⟩ => ⟨S4x4x8192x8192, .f32⟩
  | .hbm, ⟨24, _⟩ => ⟨S4x4x8192x8192, .f32⟩
  | .hbm, ⟨25, _⟩ => ⟨S_, .f32⟩
  | .hbm, ⟨26, _⟩ => ⟨S4x4x8192, .f32⟩
  | .hbm, ⟨27, _⟩ => ⟨S_, .f32⟩
  | .hbm, ⟨28, _⟩ => ⟨S4x4x8192, .f32⟩
  | .hbm, ⟨29, _⟩ => ⟨S4x4x8192, .f32⟩
  | .hbm, ⟨30, _⟩ => ⟨S4x4x8192x1, .f32⟩
  | .hbm, ⟨31, _⟩ => ⟨S4x4x8192x8192, .f32⟩
  | .hbm, ⟨32, _⟩ => ⟨S4x4x8192x8192, .f32⟩
  | .hbm, ⟨33, _⟩ => ⟨S4x4x8192x8192, .f32⟩
  | .hbm, ⟨34, _⟩ => ⟨S_, .f32⟩
  | .hbm, ⟨35, _⟩ => ⟨S4x4x8192, .f32⟩
  | .hbm, ⟨36, _⟩ => ⟨S4x4x8192x1, .f32⟩
  | .hbm, ⟨37, _⟩ => ⟨S4x4x8192x8192, .f32⟩
  | .hbm, ⟨38, _⟩ => ⟨S4x4x8192x8192, .f32⟩
  | .hbm, ⟨39, _⟩ => ⟨S_, .f32⟩
  | .hbm, ⟨40, _⟩ => ⟨S_, .f32⟩
  | .hbm, ⟨41, _⟩ => ⟨S4x4x8192x8192, .i1⟩
  | .hbm, ⟨42, _⟩ => ⟨S4x4x8192x8192, .f32⟩
  | .hbm, ⟨43, _⟩ => ⟨S4x4x8192x8192, .f32⟩
  | .hbm, ⟨44, _⟩ => ⟨S4x4x8192x64, .f32⟩
  | .hbm, ⟨45, _⟩ => ⟨S4x8192x4x64, .f32⟩
  | .hbm, ⟨46, _⟩ => ⟨S4x8192x256, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

def κ : String → Option EReal := fun
  | "mask" => some ⊥
  | _ => none
-- ==== Kernel2.lean ====
abbrev S32768x1024 : Shape := ⟨2, ![32768, 1024]⟩
abbrev S1024 : Shape := ⟨1, ![1024]⟩
abbrev S1024x3132 : Shape := ⟨2, ![1024, 3132]⟩
abbrev S1024x256 : Shape := ⟨2, ![1024, 256]⟩
abbrev S_ : Shape := ⟨0, ![]⟩
abbrev S1024x64 : Shape := ⟨2, ![1024, 64]⟩
abbrev S1024x128 : Shape := ⟨2, ![1024, 128]⟩
abbrev S1024x768 : Shape := ⟨2, ![1024, 768]⟩
abbrev S1024x12 : Shape := ⟨2, ![1024, 12]⟩
abbrev S1024x8 : Shape := ⟨2, ![1024, 8]⟩
abbrev S1024x32 : Shape := ⟨2, ![1024, 32]⟩
abbrev S1024x60 : Shape := ⟨2, ![1024, 60]⟩
abbrev S1x1024 : Shape := ⟨2, ![1, 1024]⟩
abbrev S32768x256 : Shape := ⟨2, ![32768, 256]⟩
abbrev S32768x64 : Shape := ⟨2, ![32768, 64]⟩
abbrev S32768x128 : Shape := ⟨2, ![32768, 128]⟩
abbrev S32768x768 : Shape := ⟨2, ![32768, 768]⟩
abbrev S512x1024 : Shape := ⟨2, ![512, 1024]⟩
abbrev S512x256 : Shape := ⟨2, ![512, 256]⟩
abbrev S512x64 : Shape := ⟨2, ![512, 64]⟩
abbrev S512x128 : Shape := ⟨2, ![512, 128]⟩
abbrev S512x768 : Shape := ⟨2, ![512, 768]⟩
abbrev S512 : Shape := ⟨1, ![512]⟩
abbrev S512x1 : Shape := ⟨2, ![512, 1]⟩

abbrev nBuf : Space → Nat
  | .hbm => 89
  | .vmem => 51
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3132, .f32⟩
  | .hbm, ⟨3, _⟩ => ⟨S1024x3132, .bf16⟩
  | .hbm, ⟨4, _⟩ => ⟨S1024x256, .bf16⟩
  | .hbm, ⟨5, _⟩ => ⟨S_, .i32⟩
  | .hbm, ⟨6, _⟩ => ⟨S_, .bf16⟩
  | .hbm, ⟨7, _⟩ => ⟨S1024x256, .bf16⟩
  | .hbm, ⟨8, _⟩ => ⟨S1024x64, .bf16⟩
  | .hbm, ⟨9, _⟩ => ⟨S_, .i32⟩
  | .hbm, ⟨10, _⟩ => ⟨S_, .bf16⟩
  | .hbm, ⟨11, _⟩ => ⟨S1024x64, .bf16⟩
  | .hbm, ⟨12, _⟩ => ⟨S1024x64, .bf16⟩
  | .hbm, ⟨13, _⟩ => ⟨S_, .i32⟩
  | .hbm, ⟨14, _⟩ => ⟨S_, .bf16⟩
  | .hbm, ⟨15, _⟩ => ⟨S1024x64, .bf16⟩
  | .hbm, ⟨16, _⟩ => ⟨S1024x64, .bf16⟩
  | .hbm, ⟨17, _⟩ => ⟨S_, .i32⟩
  | .hbm, ⟨18, _⟩ => ⟨S_, .bf16⟩
  | .hbm, ⟨19, _⟩ => ⟨S1024x64, .bf16⟩
  | .hbm, ⟨20, _⟩ => ⟨S1024x64, .bf16⟩
  | .hbm, ⟨21, _⟩ => ⟨S_, .i32⟩
  | .hbm, ⟨22, _⟩ => ⟨S_, .bf16⟩
  | .hbm, ⟨23, _⟩ => ⟨S1024x128, .bf16⟩
  | .hbm, ⟨24, _⟩ => ⟨S1024x64, .bf16⟩
  | .hbm, ⟨25, _⟩ => ⟨S_, .i32⟩
  | .hbm, ⟨26, _⟩ => ⟨S_, .bf16⟩
  | .hbm, ⟨27, _⟩ => ⟨S1024x64, .bf16⟩
  | .hbm, ⟨28, _⟩ => ⟨S1024x64, .bf16⟩
  | .hbm, ⟨29, _⟩ => ⟨S_, .i32⟩
  | .hbm, ⟨30, _⟩ => ⟨S_, .bf16⟩
  | .hbm, ⟨31, _⟩ => ⟨S1024x128, .bf16⟩
  | .hbm, ⟨32, _⟩ => ⟨S1024x256, .bf16⟩
  | .hbm, ⟨33, _⟩ => ⟨S_, .i32⟩
  | .hbm, ⟨34, _⟩ => ⟨S_, .bf16⟩
  | .hbm, ⟨35, _⟩ => ⟨S1024x256, .bf16⟩
  | .hbm, ⟨36, _⟩ => ⟨S1024x256, .bf16⟩
  | .hbm, ⟨37, _⟩ => ⟨S_, .i32⟩
  | .hbm, ⟨38, _⟩ => ⟨S_, .bf16⟩
  | .hbm, ⟨39, _⟩ => ⟨S1024x256, .bf16⟩
  | .hbm, ⟨40, _⟩ => ⟨S1024x256, .bf16⟩
  | .hbm, ⟨41, _⟩ => ⟨S_, .i32⟩
  | .hbm, ⟨42, _⟩ => ⟨S_, .bf16⟩
  | .hbm, ⟨43, _⟩ => ⟨S1024x256, .bf16⟩
  | .hbm, ⟨44, _⟩ => ⟨S1024x256, .bf16⟩
  | .hbm, ⟨45, _⟩ => ⟨S_, .i32⟩
  | .hbm, ⟨46, _⟩ => ⟨S_, .bf16⟩
  | .hbm, ⟨47, _⟩ => ⟨S1024x256, .bf16⟩
  | .hbm, ⟨48, _⟩ => ⟨S1024x768, .bf16⟩
  | .hbm, ⟨49, _⟩ => ⟨S_, .i32⟩
  | .hbm, ⟨50, _⟩ => ⟨S_, .bf16⟩
  | .hbm, ⟨51, _⟩ => ⟨S1024x768, .bf16⟩
  | .hbm, ⟨52, _⟩ => ⟨S1024x256, .bf16⟩
  | .hbm, ⟨53, _⟩ => ⟨S_, .i32⟩
  | .hbm, ⟨54, _⟩ => ⟨S_, .bf16⟩
  | .hbm, ⟨55, _⟩ => ⟨S1024x256, .bf16⟩
  | .hbm, ⟨56, _⟩ => ⟨S1024x256, .bf16⟩
  | .hbm, ⟨57, _⟩ => ⟨S_, .i32⟩
  | .hbm, ⟨58, _⟩ => ⟨S_, .bf16⟩
  | .hbm, ⟨59, _⟩ => ⟨S1024x256, .bf16⟩
  | .hbm, ⟨60, _⟩ => ⟨S1024x128, .bf16⟩
  | .hbm, ⟨61, _⟩ => ⟨S_, .i32⟩
  | .hbm, ⟨62, _⟩ => ⟨S_, .bf16⟩
  | .hbm, ⟨63, _⟩ => ⟨S1024x128, .bf16⟩
  | .hbm, ⟨64, _⟩ => ⟨S1024x12, .bf16⟩
  | .hbm, ⟨65, _⟩ => ⟨S1024x8, .bf16⟩
  | .hbm, ⟨66, _⟩ => ⟨S1024x8, .bf16⟩
  | .hbm, ⟨67, _⟩ => ⟨S1024x32, .bf16⟩
  | .hbm, ⟨68, _⟩ => ⟨S1024x60, .bf16⟩
  | .hbm, ⟨69, _⟩ => ⟨S_, .i32⟩
  | .hbm, ⟨70, _⟩ => ⟨S_, .bf16⟩
  | .hbm, ⟨71, _⟩ => ⟨S1024x128, .bf16⟩
  | .hbm, ⟨72, _⟩ => ⟨S1x1024, .f32⟩
  | .hbm, ⟨73, _⟩ => ⟨S32768x256, .f32⟩
  | .hbm, ⟨74, _⟩ => ⟨S32768x64, .f32⟩
  | .hbm, ⟨75, _⟩ => ⟨S32768x64, .f32⟩
  | .hbm, ⟨76, _⟩ => ⟨S32768x64, .bf16⟩
  | .hbm, ⟨77, _⟩ => ⟨S32768x128, .bf16⟩
  | .hbm, ⟨78, _⟩ => ⟨S32768x64, .bf16⟩
  | .hbm, ⟨79, _⟩ => ⟨S32768x128, .bf16⟩
  | .hbm, ⟨80, _⟩ => ⟨S32768x256, .f32⟩
  | .hbm, ⟨81, _⟩ => ⟨S32768x256, .f32⟩
  | .hbm, ⟨82, _⟩ => ⟨S32768x256, .f32⟩
  | .hbm, ⟨83, _⟩ => ⟨S32768x256, .f32⟩
  | .hbm, ⟨84, _⟩ => ⟨S32768x768, .f32⟩
  | .hbm, ⟨85, _⟩ => ⟨S32768x256, .f32⟩
  | .hbm, ⟨86, _⟩ => ⟨S32768x256, .f32⟩
  | .hbm, ⟨87, _⟩ => ⟨S32768x128, .f32⟩
  | .hbm, ⟨88, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S1024x64, .bf16⟩
  | .local _ .vmem, ⟨5, _⟩ => ⟨S1024x64, .bf16⟩
  | .local _ .vmem, ⟨6, _⟩ => ⟨S1024x64, .bf16⟩
  | .local _ .vmem, ⟨7, _⟩ => ⟨S1024x128, .bf16⟩
  | .local _ .vmem, ⟨8, _⟩ => ⟨S1024x64, .bf16⟩
  | .local _ .vmem, ⟨9, _⟩ => ⟨S1024x128, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x768, .bf16⟩
  | .local _ .vmem, ⟨15, _⟩ => ⟨S1024x256, .bf16⟩
  | .local _ .vmem, ⟨16, _⟩ => ⟨S1024x256, .bf16⟩
  | .local _ .vmem, ⟨17, _⟩ => ⟨S1024x128, .bf16⟩
  | .local _ .vmem, ⟨18, _⟩ => ⟨S1024x128, .bf16⟩
  | .local _ .vmem, ⟨19, _⟩ => ⟨S512x256, .f32⟩
  | .local _ .vmem, ⟨20, _⟩ => ⟨S512x256, .f32⟩
  | .local _ .vmem, ⟨21, _⟩ => ⟨S512x64, .f32⟩
  | .local _ .vmem, ⟨22, _⟩ => ⟨S512x64, .f32⟩
  | .local _ .vmem, ⟨23, _⟩ => ⟨S512x64, .f32⟩
  | .local _ .vmem, ⟨24, _⟩ => ⟨S512x64, .f32⟩
  | .local _ .vmem, ⟨25, _⟩ => ⟨S512x64, .bf16⟩
  | .local _ .vmem, ⟨26, _⟩ => ⟨S512x64, .bf16⟩
  | .local _ .vmem, ⟨27, _⟩ => ⟨S512x128, .bf16⟩
  | .local _ .vmem, ⟨28, _⟩ => ⟨S512x128, .bf16⟩
  | .local _ .vmem, ⟨29, _⟩ => ⟨S512x64, .bf16⟩
  | .local _ .vmem, ⟨30, _⟩ => ⟨S512x64, .bf16⟩
  | .local _ .vmem, ⟨31, _⟩ => ⟨S512x128, .bf16⟩
  | .local _ .vmem, ⟨32, _⟩ => ⟨S512x128, .bf16⟩
  | .local _ .vmem, ⟨33, _⟩ => ⟨S512x256, .f32⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | .local _ .vmem, ⟨40, _⟩ => ⟨S512x256, .f32⟩
  | .local _ .vmem, ⟨41, _⟩ => ⟨S512x768, .f32⟩
  | .local _ .vmem, ⟨42, _⟩ => ⟨S512x768, .f32⟩
  | .local _ .vmem, ⟨43, _⟩ => ⟨S512x256, .f32⟩
  | .local _ .vmem, ⟨44, _⟩ => ⟨S512x256, .f32⟩
  | .local _ .vmem, ⟨45, _⟩ => ⟨S512x256, .f32⟩
  | .local _ .vmem, ⟨46, _⟩ => ⟨S512x256, .f32⟩
  | .local _ .vmem, ⟨47, _⟩ => ⟨S512x128, .f32⟩
  | .local _ .vmem, ⟨48, _⟩ => ⟨S512x128, .f32⟩
  | .local _ .vmem, ⟨49, _⟩ => ⟨S512x128, .f32⟩
  | .local _ .vmem, ⟨50, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call3_v0 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_call4_v0 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_call5_v0 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_call6_v0 : Ref sig .tc := ⟨.hbm, 30, rfl⟩
abbrev main_v14 : Ref sig .tc := ⟨.hbm, 31, rfl⟩
abbrev main_v15 : Ref sig .tc := ⟨.hbm, 32, rfl⟩
abbrev main_c_6 : Ref sig .tc := ⟨.hbm, 33, rfl⟩
abbrev main_call7_v0 : Ref sig .tc := ⟨.hbm, 34, rfl⟩
abbrev main_v16 : Ref sig .tc := ⟨.hbm, 35, rfl⟩
abbrev main_v17 : Ref sig .tc := ⟨.hbm, 36, rfl⟩
abbrev main_c_7 : Ref sig .tc := ⟨.hbm, 37, rfl⟩
abbrev main_call8_v0 : Ref sig .tc := ⟨.hbm, 38, rfl⟩
abbrev main_v18 : Ref sig .tc := ⟨.hbm, 39, rfl⟩
abbrev main_v19 : Ref sig .tc := ⟨.hbm, 40, rfl⟩
abbrev main_c_8 : Ref sig .tc := ⟨.hbm, 41, rfl⟩
abbrev main_call9_v0 : Ref sig .tc := ⟨.hbm, 42, rfl⟩
abbrev main_v20 : Ref sig .tc := ⟨.hbm, 43, rfl⟩
abbrev main_v21 : Ref sig .tc := ⟨.hbm, 44, rfl⟩
abbrev main_c_9 : Ref sig .tc := ⟨.hbm, 45, rfl⟩
abbrev main_call10_v0 : Ref sig .tc := ⟨.hbm, 46, rfl⟩
abbrev main_v22 : Ref sig .tc := ⟨.hbm, 47, rfl⟩
abbrev main_v23 : Ref sig .tc := ⟨.hbm, 48, rfl⟩
abbrev main_c_10 : Ref sig .tc := ⟨.hbm, 49, rfl⟩
abbrev main_call11_v0 : Ref sig .tc := ⟨.hbm, 50, rfl⟩
abbrev main_v24 : Ref sig .tc := ⟨.hbm, 51, rfl⟩
abbrev main_v25 : Ref sig .tc := ⟨.hbm, 52, rfl⟩
abbrev main_c_11 : Ref sig .tc := ⟨.hbm, 53, rfl⟩
abbrev main_call12_v0 : Ref sig .tc := ⟨.hbm, 54, rfl⟩
abbrev main_v26 : Ref sig .tc := ⟨.hbm, 55, rfl⟩
abbrev main_v27 : Ref sig .tc := ⟨.hbm, 56, rfl⟩
abbrev main_c_12 : Ref sig .tc := ⟨.hbm, 57, rfl⟩
abbrev main_call13_v0 : Ref sig .tc := ⟨.hbm, 58, rfl⟩
abbrev main_v28 : Ref sig .tc := ⟨.hbm, 59, rfl⟩
abbrev main_v29 : Ref sig .tc := ⟨.hbm, 60, rfl⟩
abbrev main_c_13 : Ref sig .tc := ⟨.hbm, 61, rfl⟩
abbrev main_call14_v0 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_14 : Ref sig .tc := ⟨.hbm, 69, rfl⟩
abbrev main_call15_v0 : Ref sig .tc := ⟨.hbm, 70, rfl⟩
abbrev main_v36 : Ref sig .tc := ⟨.hbm, 71, rfl⟩
abbrev main_v37 : Ref sig .tc := ⟨.hbm, 72, rfl⟩
abbrev main_v38_0 : Ref sig .tc := ⟨.hbm, 73, rfl⟩
abbrev main_v38_1 : Ref sig .tc := ⟨.hbm, 74, rfl⟩
abbrev main_v38_2 : Ref sig .tc := ⟨.hbm, 75, rfl⟩
abbrev main_v38_3 : Ref sig .tc := ⟨.hbm, 76, rfl⟩
abbrev main_v38_4 : Ref sig .tc := ⟨.hbm, 77, rfl⟩
abbrev main_v38_5 : Ref sig .tc := ⟨.hbm, 78, rfl⟩
abbrev main_v38_6 : Ref sig .tc := ⟨.hbm, 79, rfl⟩
abbrev main_v38_7 : Ref sig .tc := ⟨.hbm, 80, rfl⟩
abbrev main_v38_8 : Ref sig .tc := ⟨.hbm, 81, rfl⟩
abbrev main_v38_9 : Ref sig .tc := ⟨.hbm, 82, rfl⟩
abbrev main_v38_10 : Ref sig .tc := ⟨.hbm, 83, rfl⟩
abbrev main_v38_11 : Ref sig .tc := ⟨.hbm, 84, rfl⟩
abbrev main_v38_12 : Ref sig .tc := ⟨.hbm, 85, rfl⟩
abbrev main_v38_13 : Ref sig .tc := ⟨.hbm, 86, rfl⟩
abbrev main_v38_14 : Ref sig .tc := ⟨.hbm, 87, rfl⟩
abbrev main_v38_15 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg26_1 : Ref sig .tc := ⟨.vmem, 36, rfl⟩
abbrev cc0_stg27_0 : Ref sig .tc := ⟨.vmem, 37, rfl⟩
abbrev cc0_stg27_1 : Ref sig .tc := ⟨.vmem, 38, rfl⟩
abbrev cc0_stg28_0 : Ref sig .tc := ⟨.vmem, 39, rfl⟩
abbrev cc0_stg28_1 : Ref sig .tc := ⟨.vmem, 40, rfl⟩
abbrev cc0_stg29_0 : Ref sig .tc := ⟨.vmem, 41, rfl⟩
abbrev cc0_stg29_1 : Ref sig .tc := ⟨.vmem, 42, rfl⟩
abbrev cc0_stg30_0 : Ref sig .tc := ⟨.vmem, 43, rfl⟩
abbrev cc0_stg30_1 : Ref sig .tc := ⟨.vmem, 44, rfl⟩
abbrev cc0_stg31_0 : Ref sig .tc := ⟨.vmem, 45, rfl⟩
abbrev cc0_stg31_1 : Ref sig .tc := ⟨.vmem, 46, rfl⟩
abbrev cc0_stg32_0 : Ref sig .tc := ⟨.vmem, 47, rfl⟩
abbrev cc0_stg32_1 : Ref sig .tc := ⟨.vmem, 48, rfl⟩
abbrev cc0_stg33_0 : Ref sig .tc := ⟨.vmem, 49, rfl⟩
abbrev cc0_stg33_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36
abbrev cc0_sem27_0 : DmaSem sig := 37
abbrev cc0_sem27_1 : DmaSem sig := 38
abbrev cc0_sem28_0 : DmaSem sig := 39
abbrev cc0_sem28_1 : DmaSem sig := 40
abbrev cc0_sem29_0 : DmaSem sig := 41
abbrev cc0_sem29_1 : DmaSem sig := 42
abbrev cc0_sem30_0 : DmaSem sig := 43
abbrev cc0_sem30_1 : DmaSem sig := 44
abbrev cc0_sem31_0 : DmaSem sig := 45
abbrev cc0_sem31_1 : DmaSem sig := 46
abbrev cc0_sem32_0 : DmaSem sig := 47
abbrev cc0_sem32_1 : DmaSem sig := 48
abbrev cc0_sem33_0 : DmaSem sig := 49
abbrev cc0_sem33_1 : DmaSem sig := 50

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x64 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x64 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x768 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S512x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S512x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S512x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]
-- ==== Reference2Ideal.lean ====
abbrev S32768x1024 : Shape := ⟨2, ![32768, 1024]⟩
abbrev S1024 : Shape := ⟨1, ![1024]⟩
abbrev S1024x3132 : Shape := ⟨2, ![1024, 3132]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3132 : Shape := ⟨2, ![32768, 3132]⟩
abbrev S32768x652 : Shape := ⟨2, ![32768, 652]⟩
abbrev S32768x1032 : Shape := ⟨2, ![32768, 1032]⟩
abbrev S32768x416 : Shape := ⟨2, ![32768, 416]⟩
abbrev S32768x256 : Shape := ⟨2, ![32768, 256]⟩
abbrev S32768x64 : Shape := ⟨2, ![32768, 64]⟩
abbrev S32768x12 : Shape := ⟨2, ![32768, 12]⟩
abbrev S32768x8 : Shape := ⟨2, ![32768, 8]⟩
abbrev S32768x768 : Shape := ⟨2, ![32768, 768]⟩
abbrev S32768x128 : Shape := ⟨2, ![32768, 128]⟩
abbrev S32768x32 : Shape := ⟨2, ![32768, 32]⟩
abbrev S32768x63 : Shape := ⟨2, ![32768, 63]⟩
abbrev S32768x60 : Shape := ⟨2, ![32768, 60]⟩
abbrev S32768x68 : Shape := ⟨2, ![32768, 68]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3132, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3132, .f32⟩
  | .hbm, ⟨20, _⟩ => ⟨S32768x652, .f32⟩
  | .hbm, ⟨21, _⟩ => ⟨S32768x1032, .f32⟩
  | .hbm, ⟨22, _⟩ => ⟨S32768x1032, .f32⟩
  | .hbm, ⟨23, _⟩ => ⟨S32768x416, .f32⟩
  | .hbm, ⟨24, _⟩ => ⟨S32768x256, .f32⟩
  | .hbm, ⟨25, _⟩ => ⟨S32768x64, .f32⟩
  | .hbm, ⟨26, _⟩ => ⟨S32768x64, .f32⟩
  | .hbm, ⟨27, _⟩ => ⟨S32768x64, .f32⟩
  | .hbm, ⟨28, _⟩ => ⟨S32768x64, .f32⟩
  | .hbm, ⟨29, _⟩ => ⟨S32768x64, .f32⟩
  | .hbm, ⟨30, _⟩ => ⟨S32768x64, .f32⟩
  | .hbm, ⟨31, _⟩ => ⟨S32768x12, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x8, .f32⟩
  | .hbm, ⟨36, _⟩ => ⟨S32768x256, .f32⟩
  | .hbm, ⟨37, _⟩ => ⟨S32768x768, .f32⟩
  | .hbm, ⟨38, _⟩ => ⟨S32768x8, .f32⟩
  | .hbm, ⟨39, _⟩ => ⟨S32768x256, .f32⟩
  | .hbm, ⟨40, _⟩ => ⟨S32768x256, .f32⟩
  | .hbm, ⟨41, _⟩ => ⟨S32768x128, .f32⟩
  | .hbm, ⟨42, _⟩ => ⟨S32768x32, .f32⟩
  | .hbm, ⟨43, _⟩ => ⟨S_, .f32⟩
  | .hbm, ⟨44, _⟩ => ⟨S32768x1, .f32⟩
  | .hbm, ⟨45, _⟩ => ⟨S_, .f32⟩
  | .hbm, ⟨46, _⟩ => ⟨S32768x63, .f32⟩
  | .hbm, ⟨47, _⟩ => ⟨S32768x64, .f32⟩
  | .hbm, ⟨48, _⟩ => ⟨S32768x60, .f32⟩
  | .hbm, ⟨49, _⟩ => ⟨S_, .f32⟩
  | .hbm, ⟨50, _⟩ => ⟨S32768x68, .f32⟩
  | .hbm, ⟨51, _⟩ => ⟨S32768x128, .f32⟩
  | .hbm, ⟨52, _⟩ => ⟨S32768x64, .bf16⟩
  | .hbm, ⟨53, _⟩ => ⟨S32768x128, .f32⟩
  | .hbm, ⟨54, _⟩ => ⟨S32768x128, .bf16⟩
  | .hbm, ⟨55, _⟩ => ⟨S32768x64, .bf16⟩
  | .hbm, ⟨56, _⟩ => ⟨S32768x128, .f32⟩
  | .hbm, ⟨57, _⟩ => ⟨S32768x128, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== Kernel3.lean ====
abbrev S32768x256 : Shape := ⟨2, ![32768, 256]⟩
abbrev S1024x1024 : Shape := ⟨2, ![1024, 1024]⟩
abbrev S32768x1024 : Shape := ⟨2, ![32768, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S1024x1024, .f32⟩
  | .hbm, ⟨5, _⟩ => ⟨S32768x1024, .f32⟩
  | .hbm, ⟨6, _⟩ => ⟨S1024x1024, .bf16⟩
  | .hbm, ⟨7, _⟩ => ⟨S256x1024, .bf16⟩
  | .hbm, ⟨8, _⟩ => ⟨S256x1024, .bf16⟩
  | .hbm, ⟨9, _⟩ => ⟨S256x1024, .bf16⟩
  | .hbm, ⟨10, _⟩ => ⟨S256x1024, .bf16⟩
  | .hbm, ⟨11, _⟩ => ⟨S32768x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x256 : Shape := ⟨2, ![32768, 256]⟩
abbrev S1024x1024 : Shape := ⟨2, ![1024, 1024]⟩
abbrev S32768x1024 : Shape := ⟨2, ![32768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S1024x1024, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1024, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Slabs.lean ====
/- What one block of keys does to the running maximum and the running sums of the four heads, as
   functions of the arrays (any float type): the four heads' slabs of the two scratch buffers, the
   slabs of keys and values a trip reads, and the buffers after the block. -/
module

public import proofs.«01_k».proof.Proof.Gen.KernelIdeal.Frame.Runs
public import Idealize.ShloMosaic.Lib.Pipeline.Value
public import Idealize.ShloMosaic.Lib.ValueIdxCore

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F] [Named F]

local notation "𝕄" => MT nD τ sig Unit (Elt F) ℕ (UR sig nD τ) ℕ

/-! ## The offsets the kernel computes -/

/-- The counted loop of query block `i` runs over the key blocks wholly before it. -/
theorem trips_eq : ∀ i : grid0.Coords, (k0_t1_loop i).trips = (i 1).val / 4 := by decide +kernel

/-- A word for `1024 * k`, read back. -/
theorem word_1024 : ∀ k : Fin 8,
    (Scalar.indexCast (Scalar.muli (Scf.iv 0#32 1#32 k.val) 1024#32) : BitVec 32).toNat = 1024 * k.val := by decide +kernel

theorem trip_lt (i : grid0.Coords) (k : Fin (k0_t1_loop i).trips) : k.val < 8 := by
  have := k.isLt; have := (k0_t1_abs i).2.1; omega

theorem off1_eq (i : grid0.Coords) (k : Fin (k0_t1_loop i).trips) : k0_off1 i k = ![0, 1024 * k.val, 0] := by
  rw [← word_1024 ⟨k.val, trip_lt i k⟩]; rfl
theorem off2_eq (i : grid0.Coords) (k : Fin (k0_t1_loop i).trips) : k0_off2 i k = ![0, 1024 * k.val, 128] := by
  rw [← word_1024 ⟨k.val, trip_lt i k⟩]; rfl
theorem off3_eq (i : grid0.Coords) (k : Fin (k0_t1_loop i).trips) : k0_off3 i k = ![0, 1024 * k.val, 256] := by
  rw [← word_1024 ⟨k.val, trip_lt i k⟩]; rfl
theorem off4_eq (i : grid0.Coords) (k : Fin (k0_t1_loop i).trips) : k0_off4 i k = ![0, 1024 * k.val, 384] := by
  rw [← word_1024 ⟨k.val, trip_lt i k⟩]; rfl

theorem off9_eq : ∀ i : grid0.Coords, k0_off9 i = ![0, 1024 * ((i 1).val / 4), 0] := by decide +kernel
theorem off10_eq : ∀ i : grid0.Coords, k0_off10 i = ![0, 1024 * ((i 1).val / 4), 128] := by decide +kernel
theorem off11_eq : ∀ i : grid0.Coords, k0_off11 i = ![0, 1024 * ((i 1).val / 4), 256] := by decide +kernel
theorem off12_eq : ∀ i : grid0.Coords, k0_off12 i = ![0, 1024 * ((i 1).val / 4), 384] := by decide +kernel

/-! ## Slabs -/

/-- Head `h`'s query block: 128 lanes of the 512. -/
def qHead (Q : Vec F S1x256x512 .bf16) (h : Fin 4) : FVec F S256x128 .bf16 := fun y =>
  Q (ix3 0 (y 0) ⟨128 * h.val + (y 1).val, by have := h.isLt; have := (y 1).isLt; simp at this; omega⟩)

/-- Head `h`'s block `j` of keys or values: 1024 rows and 128 lanes. -/
def kvHead (K : Vec F S1x8192x512 .bf16) (j : ℕ) (h : Fin 4) : Vec F S1x1024x128 .bf16 := fun y =>
  K (ix3 0 ⟨(1024 * j + (y 1).val) % 8192, Nat.mod_lt _ (by decide)⟩
    ⟨128 * h.val + (y 2).val, by have := h.isLt; have := (y 2).isLt; simp at this; omega⟩)

/-- Head `h`'s slab of the running maxima. -/
def slabM (M : Vec F S4x256x1 .f32) (h : Fin 4) : Vec F S1x256x1 .f32 := fun y => M (ix3 h (y 1) (y 2))
/-- Head `h`'s slab of the running sums. -/
def slabA (A : Vec F S4x256x128 .f32) (h : Fin 4) : Vec F S1x256x128 .f32 := fun y => A (ix3 h (y 1) (y 2))

/-- A load of 1024 rows and 128 lanes is the head's block. -/
theorem ld_kv (K : Vec F S1x8192x512 .bf16) (off : Fin 3 → ℕ) (inb) (j : ℕ) (h : Fin 4)
    (e : off = ![0, 1024 * j, 128 * h.val]) :
    View.ld K (Rect.unit (s := S1x8192x512) off S1x1024x128.size inb) = kvHead K j h := by
  subst e
  funext y
  have h1 := inb 1
  simp at h1
  have hy : (y 1).val < 1024 := (y 1).isLt
  refine congrArg K (funext fun a => Fin.ext ?_)
  fin_cases a
  · show 0 + 1 * (y 0).val = 0
    have : (y 0).val < 1 := (y 0).isLt
    omega
  · show 1024 * j + 1 * (y 1).val = (1024 * j + (y 1).val) % 8192
    omega
  · show 128 * h.val + 1 * (y 2).val = 128 * h.val + (y 2).val
    omega

theorem ld_M (M : Vec F S4x256x1 .f32) (off : Fin 3 → ℕ) (inb) (h : Fin 4) (e : off = ![h.val, 0, 0]) :
    View.ld M (Rect.unit (s := S4x256x1) off S1x256x1.size inb) = slabM M h := by
  subst e
  funext y
  refine congrArg M (funext fun a => Fin.ext ?_)
  fin_cases a
  · show h.val + 1 * (y 0).val = h.val
    have : (y 0).val < 1 := (y 0).isLt
    omega
  · show 0 + 1 * (y 1).val = (y 1).val
    omega
  · show 0 + 1 * (y 2).val = (y 2).val
    omega

theorem ld_A (A : Vec F S4x256x128 .f32) (off : Fin 3 → ℕ) (inb) (h : Fin 4) (e : off = ![h.val, 0, 0]) :
    View.ld A (Rect.unit (s := S4x256x128) off S1x256x128.size inb) = slabA A h := by
  subst e
  funext y
  refine congrArg A (funext fun a => Fin.ext ?_)
  fin_cases a
  · show h.val + 1 * (y 0).val = h.val
    have : (y 0).val < 1 := (y 0).isLt
    omega
  · show 0 + 1 * (y 1).val = (y 1).val
    omega
  · show 0 + 1 * (y 2).val = (y 2).val
    omega

theorem ld_q (Q : Vec F S1x256x512 .bf16) (off : Fin 3 → ℕ) (inb) (h : Fin 4) (e : off = ![0, 0, 128 * h.val]) :
    shapeCast S256x128 (View.ld Q (Rect.unit (s := S1x256x512) off S1x256x128.size inb)) shapeCasts_S1x256x128_S256x128
      = qHead Q h := by
  subst e
  funext y
  refine (shapeCast_dropUnit_apply _ _ _ y).trans ?_
  refine congrArg Q (funext fun a => Fin.ext ?_)
  fin_cases a
  · rfl
  · show 0 + 1 * (y 0).val = (y 0).val
    omega
  · show 128 * h.val + 1 * (y 1).val = 128 * h.val + (y 1).val
    omega

/-- Four slabs as one array (the maxima). -/
def stackM (p : Fin 4 → Vec F S1x256x1 .f32) : Vec F S4x256x1 .f32 := fun x => p (x 0) (ix3 0 (x 1) (x 2))
/-- Four slabs as one array (the sums). -/
def stackA (p : Fin 4 → Vec F S1x256x128 .f32) : Vec F S4x256x128 .f32 := fun x => p (x 0) (ix3 0 (x 1) (x 2))

/-! ## The buffers after one block -/

/-- The running maxima after a block whose scores are `s`. -/
def updM (s : Fin 4 → FVec F S256x1024 .f32) (M : Vec F S4x256x1 .f32) : Vec F S4x256x1 .f32 := stackM fun h => k0_pay12 (s h) (slabM M h)

/-- The running sums after a block whose scores are `s` and values `v`. -/
def updA (s : Fin 4 → FVec F S256x1024 .f32) (v : Fin 4 → Vec F S1x1024x128 .bf16)
    (M : Vec F S4x256x1 .f32) (A : Vec F S4x256x128 .f32) : Vec F S4x256x128 .f32 := stackA fun h => k0_pay11 (s h) (slabM M h) (slabA A h) (v h)

/-- The scores of a block, head by head. -/
def score (q : Fin 4 → FVec F S256x128 .bf16) (k : Fin 4 → Vec F S1x1024x128 .bf16) (h : Fin 4) : FVec F S256x1024 .f32 :=
  k0_pay3 (q h) (k h)

variable {v6 : View sig .tc .vmem S4x256x1 .f32} {v7 : View sig .tc .vmem S4x256x128 .f32}

/-- The four stores of one block, last first. -/
abbrev piecesM (i0 : ∀ a, (![0, 0, 0] : Fin 3 → ℕ) a + S1x256x1.size a ≤ S4x256x1.size a) (i1 : ∀ a, (![1, 0, 0] : Fin 3 → ℕ) a + S1x256x1.size a ≤ S4x256x1.size a)
    (i2 : ∀ a, (![2, 0, 0] : Fin 3 → ℕ) a + S1x256x1.size a ≤ S4x256x1.size a) (i3 : ∀ a, (![3, 0, 0] : Fin 3 → ℕ) a + S1x256x1.size a ≤ S4x256x1.size a)
    (p : Fin 4 → Vec F S1x256x1 .f32) : List (View.Piece (Elt F) S4x256x1 .f32) :=
  [⟨Rect.unit (s := S4x256x1) ![3, 0, 0] S1x256x1.size i3, p 3⟩, ⟨Rect.unit (s := S4x256x1) ![2, 0, 0] S1x256x1.size i2, p 2⟩,
       ⟨Rect.unit (s := S4x256x1) ![1, 0, 0] S1x256x1.size i1, p 1⟩, ⟨Rect.unit (s := S4x256x1) ![0, 0, 0] S1x256x1.size i0, p 0⟩]

theorem cover_piecesM (i0 i1 i2 i3) (p : Fin 4 → Vec F S1x256x1 .f32) (y : S4x256x1.Idx) :
    ∃ pc ∈ piecesM i0 i1 i2 i3 p, y ∈ pc.1.set :=
  View.cover_of_tiledL (piecesM i0 i1 i2 i3 p) S1x256x1.size (by sl_kernel_rfl) y

/-- Four slabs stored one by one leave their stack (the maxima). -/
theorem read_slabsM (f : v6.ty.Contents (Elt F)) (i0 i1 i2 i3) (p : Fin 4 → Vec F S1x256x1 .f32) :
    v6.read (Elt F) (v6.writes (Elt F) f
      (piecesM i0 i1 i2 i3 p))
      = stackM p := by
  refine (View.read_writes_eq_canon (Val := Elt F) _ _ _ (cover_piecesM i0 i1 i2 i3 p)).trans ?_
  funext y
  refine View.canon_apply_of_pieces (Val := Elt F) (stackM p) _ ?_ y
    (cover_piecesM i0 i1 i2 i3 p y)
  intro q hq x
  have key : ∀ (h : Fin 4) (ib) (x : S1x256x1.Idx),
      p h x = stackM p ((Rect.unit (s := S4x256x1) ![h.val, 0, 0] S1x256x1.size ib).emb x) := by
    intro h ib x
    have e0 : ((Rect.unit (s := S4x256x1) ![h.val, 0, 0] S1x256x1.size ib).emb x) 0 = h := Fin.ext (by
      show h.val + 1 * (x 0).val = h.val
      have : (x 0).val < 1 := (x 0).isLt
      omega)
    show p h x = p _ _
    refine (congrArg (p h) (funext fun a => Fin.ext ?_)).trans (congrArg (fun g => p g (ix3 0 _ _)) e0.symm)
    fin_cases a
    · show (x 0).val = 0
      have : (x 0).val < 1 := (x 0).isLt
      omega
    · show (x 1).val = 0 + 1 * (x 1).val
      omega
    · show (x 2).val = 0 + 1 * (x 2).val
      omega
  simp only [piecesM, List.mem_cons, List.not_mem_nil, _root_.or_false] at hq
  rcases hq with rfl | rfl | rfl | rfl
  · exact key 3 i3 x
  · exact key 2 i2 x
  · exact key 1 i1 x
  · exact key 0 i0 x

/-- The four stores of one block, last first. -/
abbrev piecesA (i0 : ∀ a, (![0, 0, 0] : Fin 3 → ℕ) a + S1x256x128.size a ≤ S4x256x128.size a) (i1 : ∀ a, (![1, 0, 0] : Fin 3 → ℕ) a + S1x256x128.size a ≤ S4x256x128.size a)
    (i2 : ∀ a, (![2, 0, 0] : Fin 3 → ℕ) a + S1x256x128.size a ≤ S4x256x128.size a) (i3 : ∀ a, (![3, 0, 0] : Fin 3 → ℕ) a + S1x256x128.size a ≤ S4x256x128.size a)
    (p : Fin 4 → Vec F S1x256x128 .f32) : List (View.Piece (Elt F) S4x256x128 .f32) :=
  [⟨Rect.unit (s := S4x256x128) ![3, 0, 0] S1x256x128.size i3, p 3⟩, ⟨Rect.unit (s := S4x256x128) ![2, 0, 0] S1x256x128.size i2, p 2⟩,
       ⟨Rect.unit (s := S4x256x128) ![1, 0, 0] S1x256x128.size i1, p 1⟩, ⟨Rect.unit (s := S4x256x128) ![0, 0, 0] S1x256x128.size i0, p 0⟩]

theorem cover_piecesA (i0 i1 i2 i3) (p : Fin 4 → Vec F S1x256x128 .f32) (y : S4x256x128.Idx) :
    ∃ pc ∈ piecesA i0 i1 i2 i3 p, y ∈ pc.1.set :=
  View.cover_of_tiledL (piecesA i0 i1 i2 i3 p) S1x256x128.size (by sl_kernel_rfl) y

/-- Four slabs stored one by one leave their stack (the sums). -/
theorem read_slabsA (f : v7.ty.Contents (Elt F)) (i0 i1 i2 i3) (p : Fin 4 → Vec F S1x256x128 .f32) :
    v7.read (Elt F) (v7.writes (Elt F) f
      (piecesA i0 i1 i2 i3 p))
      = stackA p := by
  refine (View.read_writes_eq_canon (Val := Elt F) _ _ _ (cover_piecesA i0 i1 i2 i3 p)).trans ?_
  funext y
  refine View.canon_apply_of_pieces (Val := Elt F) (stackA p) _ ?_ y
    (cover_piecesA i0 i1 i2 i3 p y)
  intro q hq x
  have key : ∀ (h : Fin 4) (ib) (x : S1x256x128.Idx),
      p h x = stackA p ((Rect.unit (s := S4x256x128) ![h.val, 0, 0] S1x256x128.size ib).emb x) := by
    intro h ib x
    have e0 : ((Rect.unit (s := S4x256x128) ![h.val, 0, 0] S1x256x128.size ib).emb x) 0 = h := Fin.ext (by
      show h.val + 1 * (x 0).val = h.val
      have : (x 0).val < 1 := (x 0).isLt
      omega)
    show p h x = p _ _
    refine (congrArg (p h) (funext fun a => Fin.ext ?_)).trans (congrArg (fun g => p g (ix3 0 _ _)) e0.symm)
    fin_cases a
    · show (x 0).val = 0
      have : (x 0).val < 1 := (x 0).isLt
      omega
    · show (x 1).val = 0 + 1 * (x 1).val
      omega
    · show (x 2).val = 0 + 1 * (x 2).val
      omega
  simp only [piecesA, List.mem_cons, List.not_mem_nil, _root_.or_false] at hq
  rcases hq with rfl | rfl | rfl | rfl
  · exact key 3 i3 x
  · exact key 2 i2 x
  · exact key 1 i1 x
  · exact key 0 i0 x

/-- The same for four slabs given one by one. -/
theorem read4M (f : v6.ty.Contents (Elt F)) (i0 i1 i2 i3) (p0 p1 p2 p3 : Vec F S1x256x1 .f32) :
    v6.read (Elt F) (v6.writes (Elt F) f [⟨Rect.unit (s := S4x256x1) ![3, 0, 0] S1x256x1.size i3, p3⟩, ⟨Rect.unit (s := S4x256x1) ![2, 0, 0] S1x256x1.size i2, p2⟩, ⟨Rect.unit (s := S4x256x1) ![1, 0, 0] S1x256x1.size i1, p1⟩, ⟨Rect.unit (s := S4x256x1) ![0, 0, 0] S1x256x1.size i0, p0⟩])
      = stackM ![p0, p1, p2, p3] :=
  read_slabsM f i0 i1 i2 i3 ![p0, p1, p2, p3]

/-- The same for four slabs given one by one. -/
theorem read4A (f : v7.ty.Contents (Elt F)) (i0 i1 i2 i3) (p0 p1 p2 p3 : Vec F S1x256x128 .f32) :
    v7.read (Elt F) (v7.writes (Elt F) f [⟨Rect.unit (s := S4x256x128) ![3, 0, 0] S1x256x128.size i3, p3⟩, ⟨Rect.unit (s := S4x256x128) ![2, 0, 0] S1x256x128.size i2, p2⟩, ⟨Rect.unit (s := S4x256x128) ![1, 0, 0] S1x256x128.size i1, p1⟩, ⟨Rect.unit (s := S4x256x128) ![0, 0, 0] S1x256x128.size i0, p0⟩])
      = stackA ![p0, p1, p2, p3] :=
  read_slabsA f i0 i1 i2 i3 ![p0, p1, p2, p3]

theorem slab_stackM (p : Fin 4 → Vec F S1x256x1 .f32) (h : Fin 4) : slabM (stackM p) h = p h :=
  funext fun y => congrArg (p h) (funext fun a => by
    have h0 : (y 0).val < 1 := (y 0).isLt
    fin_cases a
    · exact Fin.ext (by show 0 = (y 0).val; omega)
    · rfl
    · rfl)

theorem slab_stackA (p : Fin 4 → Vec F S1x256x128 .f32) (h : Fin 4) : slabA (stackA p) h = p h :=
  funext fun y => congrArg (p h) (funext fun a => by
    have h0 : (y 0).val < 1 := (y 0).isLt
    fin_cases a
    · exact Fin.ext (by show 0 = (y 0).val; omega)
    · rfl
    · rfl)

/-- A store of a whole buffer leaves its payload. -/
theorem read_whole {s : Shape} {e : EltTy} {sg : RefSig} {κ : Kind} {sp : Space} [∀ e, Nonempty (Elt F e)] (v : View sg κ sp s e) (f : v.ty.Contents (Elt F)) {off : Fin s.rank → ℕ}
    (h : off = fun _ => 0) (inb : ∀ a, off a + s.size a ≤ s.size a) (w : s.Idx → Elt F e) :
    v.read (Elt F) (v.writes (Elt F) f [⟨Rect.unit off s.size inb, w⟩]) = w :=
  (View.read_writes_eq_canon (Val := Elt F) _ _ _ (fun y => ⟨_, List.mem_singleton.mpr rfl, View.mem_set_unit_zero h inb y⟩)).trans
    (View.canon_unit_zero (Val := Elt F) h inb w)

end Cert.KernelIdeal.Att

end
-- ==== Proof.Trip.lean ====
/- One trip of the counted loop, and the loop: what the two scratch buffers hold after it. -/
module

public import proofs.«01_k».proof.Proof.Slabs

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F] [Named F]

local notation "𝕄" => MT nD τ sig Unit (Elt F) ℕ (UR sig nD τ) ℕ

variable (c : Dev nD) (i : grid0.Coords) (arg2 : Memref sig .tc .vmem S1x256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S1x256x256 .f32) (harg5 : arg5.IsWhole) (arg6 : Memref sig .tc .vmem S4x256x1 .f32) (harg6 : arg6.IsWhole) (arg7 : Memref sig .tc .vmem S4x256x128 .f32) (harg7 : arg7.IsWhole)
  (v3 : IVec S256x1024 32) (v4 : IVec S256x1024 32) (v22 : BitVec 32) (v24 : FVec F S256x128 .bf16) (v26 : FVec F S256x128 .bf16) (v28 : FVec F S256x128 .bf16) (v30 : FVec F S256x128 .bf16) (v31 : FVec F S4x256x1 .f32) (v32 : Vec F S4x256x1 .f32)

/-- A buffer held at contents that read `X`. -/
abbrev held6 (X : Vec F S4x256x1 .f32) : sProp 𝕄 :=
  iprop(∃ f, (arg6.view.loc (c : Thread nD τ) ↦[arg6.view.set]{fullShare} f) ∗ ⌜arg6.view.read (Elt F) f = X⌝)
abbrev held7 (X : Vec F S4x256x128 .f32) : sProp 𝕄 :=
  iprop(∃ f, (arg7.view.loc (c : Thread nD τ) ↦[arg7.view.set]{fullShare} f) ∗ ⌜arg7.view.read (Elt F) f = X⌝)

set_option backward.isDefEq.respectTransparency false in
/-- One trip of the loop leaves the two buffers updated by its block. -/
theorem trip1 (X3 : BufTy.Contents (Elt F) arg3.view.ty) (X4 : BufTy.Contents (Elt F) arg4.view.ty)
    (f6 : BufTy.Contents (Elt F) arg6.view.ty) (f7 : BufTy.Contents (Elt F) arg7.view.ty)
    (k : Fin (k0_t1_loop i).trips) (E : Set ℕ) :
    iprop((arg3.view.loc (c : Thread nD τ) ↦[arg3.view.set]{fullShare} X3) ∗ (arg4.view.loc (c : Thread nD τ) ↦[arg4.view.set]{fullShare} X4)
      ∗ (arg6.view.loc (c : Thread nD τ) ↦[arg6.view.set]{fullShare} f6) ∗ (arg7.view.loc (c : Thread nD τ) ↦[arg7.view.set]{fullShare} f7))
      ⊢ wp frame (wpE (defs₀ (F := F)) Variants.none (c : Thread nD τ) none) E (k0_t1_body (F := F) i arg2 harg2 arg3 harg3 arg4 harg4 arg5 harg5 arg6 harg6 arg7 harg7 v3 v4 v22 v24 v26 v28 v30 v31 v32 k PUnit.unit)
          (fun _ => iprop((arg3.view.loc (c : Thread nD τ) ↦[arg3.view.set]{fullShare} X3) ∗ (arg4.view.loc (c : Thread nD τ) ↦[arg4.view.set]{fullShare} X4)
            ∗ held6 (F := F) c arg6 (updM (score ![v24, v26, v28, v30] (kvHead (arg3.view.read (Elt F) X3) k.val)) (arg6.view.read (Elt F) f6))
            ∗ held7 (F := F) c arg7 (updA (score ![v24, v26, v28, v30] (kvHead (arg3.view.read (Elt F) X3) k.val)) (kvHead (arg4.view.read (Elt F) X4) k.val) (arg6.view.read (Elt F) f6) (arg7.view.read (Elt F) f7)))) := by
  unfold k0_t1_body
  iintro ⟨HR_arg3, HR_arg4, HW_arg6, HW_arg7⟩
  sl_exec
  sl_step
  have K0 := ld_kv (arg3.view.read (Elt F) X3) _ (k0_off1_inb i k) k.val 0 (off1_eq i k)
  have K1 := ld_kv (arg3.view.read (Elt F) X3) _ (k0_off2_inb i k) k.val 1 (off2_eq i k)
  have K2 := ld_kv (arg3.view.read (Elt F) X3) _ (k0_off3_inb i k) k.val 2 (off3_eq i k)
  have K3 := ld_kv (arg3.view.read (Elt F) X3) _ (k0_off4_inb i k) k.val 3 (off4_eq i k)
  have V0 := ld_kv (arg4.view.read (Elt F) X4) _ (k0_off1_inb i k) k.val 0 (off1_eq i k)
  have V1 := ld_kv (arg4.view.read (Elt F) X4) _ (k0_off2_inb i k) k.val 1 (off2_eq i k)
  have V2 := ld_kv (arg4.view.read (Elt F) X4) _ (k0_off3_inb i k) k.val 2 (off3_eq i k)
  have V3 := ld_kv (arg4.view.read (Elt F) X4) _ (k0_off4_inb i k) k.val 3 (off4_eq i k)
  have M0 := ld_M (arg6.view.read (Elt F) f6) _ inb_S4x256x1_S1x256x1_0_0_0 0 rfl
  have M1 := ld_M (arg6.view.read (Elt F) f6) _ inb_S4x256x1_S1x256x1_1_0_0 1 rfl
  have M2 := ld_M (arg6.view.read (Elt F) f6) _ inb_S4x256x1_S1x256x1_2_0_0 2 rfl
  have M3 := ld_M (arg6.view.read (Elt F) f6) _ inb_S4x256x1_S1x256x1_3_0_0 3 rfl
  have A0 := ld_A (arg7.view.read (Elt F) f7) _ inb_S4x256x128_S1x256x128_0_0_0 0 rfl
  have A1 := ld_A (arg7.view.read (Elt F) f7) _ inb_S4x256x128_S1x256x128_1_0_0 1 rfl
  have A2 := ld_A (arg7.view.read (Elt F) f7) _ inb_S4x256x128_S1x256x128_2_0_0 2 rfl
  have A3 := ld_A (arg7.view.read (Elt F) f7) _ inb_S4x256x128_S1x256x128_3_0_0 3 rfl
  isplitl [HR_arg3]; · iexact HR_arg3
  isplitl [HR_arg4]; · iexact HR_arg4
  isplitl [HW_arg6]
  · iexists _; isplitl [HW_arg6]; · iexact HW_arg6
    ipureintro
    refine (read4M (v6 := arg6.view) f6 _ _ _ _ _ _ _ _).trans (congrArg stackM (funext fun h => ?_))
    fin_cases h
    · show _ = k0_pay12 (k0_pay3 v24 (kvHead _ _ 0)) (slabM _ 0)
      rw [← K0, ← M0]; rfl
    · show _ = k0_pay12 (k0_pay3 v26 (kvHead _ _ 1)) (slabM _ 1)
      rw [← K1, ← M1]; rfl
    · show _ = k0_pay12 (k0_pay3 v28 (kvHead _ _ 2)) (slabM _ 2)
      rw [← K2, ← M2]; rfl
    · show _ = k0_pay12 (k0_pay3 v30 (kvHead _ _ 3)) (slabM _ 3)
      rw [← K3, ← M3]; rfl
  · iexists _; isplitl [HW_arg7]; · iexact HW_arg7
    ipureintro
    refine (read4A (v7 := arg7.view) f7 _ _ _ _ _ _ _ _).trans (congrArg stackA (funext fun h => ?_))
    fin_cases h
    · show _ = k0_pay11 (k0_pay3 v24 (kvHead _ _ 0)) (slabM _ 0) (slabA _ 0) (kvHead _ _ 0)
      rw [← K0, ← M0, ← A0, ← V0]; rfl
    · show _ = k0_pay11 (k0_pay3 v26 (kvHead _ _ 1)) (slabM _ 1) (slabA _ 1) (kvHead _ _ 1)
      rw [← K1, ← M1, ← A1, ← V1]; rfl
    · show _ = k0_pay11 (k0_pay3 v28 (kvHead _ _ 2)) (slabM _ 2) (slabA _ 2) (kvHead _ _ 2)
      rw [← K2, ← M2, ← A2, ← V2]; rfl
    · show _ = k0_pay11 (k0_pay3 v30 (kvHead _ _ 3)) (slabM _ 3) (slabA _ 3) (kvHead _ _ 3)
      rw [← K3, ← M3, ← A3, ← V3]; rfl

/-- The running maxima and sums after the first `k` blocks. -/
def runMA (q : Fin 4 → FVec F S256x128 .bf16) (K V : Vec F S1x8192x512 .bf16) (M0 : Vec F S4x256x1 .f32) (A0 : Vec F S4x256x128 .f32) :
    ℕ → Vec F S4x256x1 .f32 × Vec F S4x256x128 .f32
  | 0 => (M0, A0)
  | k + 1 => (updM (score q (kvHead K k)) (runMA q K V M0 A0 k).1,
      updA (score q (kvHead K k)) (kvHead V k) (runMA q K V M0 A0 k).1 (runMA q K V M0 A0 k).2)

/-- What the buffer of maxima holds after `k` trips: what it held at the start, or the running maxima. -/
def cont6 (G : BufTy.Contents (Elt F) arg6.view.ty) (s : ℕ → Vec F S4x256x1 .f32 × Vec F S4x256x128 .f32) : ℕ → BufTy.Contents (Elt F) arg6.view.ty
  | 0 => G
  | k + 1 => harg6.unread (s (k + 1)).1

/-- The same for the buffer of sums. -/
def cont7 (G : BufTy.Contents (Elt F) arg7.view.ty) (s : ℕ → Vec F S4x256x1 .f32 × Vec F S4x256x128 .f32) : ℕ → BufTy.Contents (Elt F) arg7.view.ty
  | 0 => G
  | k + 1 => harg7.unread (s (k + 1)).2

theorem read_cont6 (G) (s : ℕ → Vec F S4x256x1 .f32 × Vec F S4x256x128 .f32) (h0 : arg6.view.read (Elt F) G = (s 0).1) :
    ∀ k, arg6.view.read (Elt F) (cont6 (F := F) arg6 harg6 G s k) = (s k).1
  | 0 => h0
  | k + 1 => harg6.read_unread _

theorem read_cont7 (G) (s : ℕ → Vec F S4x256x1 .f32 × Vec F S4x256x128 .f32) (h0 : arg7.view.read (Elt F) G = (s 0).2) :
    ∀ k, arg7.view.read (Elt F) (cont7 (F := F) arg7 harg7 G s k) = (s k).2
  | 0 => h0
  | k + 1 => harg7.read_unread _

/-- The states of the loop from the contents at its start. -/
abbrev loopMA (X3 : BufTy.Contents (Elt F) arg3.view.ty) (X4 : BufTy.Contents (Elt F) arg4.view.ty)
    (G6 : BufTy.Contents (Elt F) arg6.view.ty) (G7 : BufTy.Contents (Elt F) arg7.view.ty) :=
  runMA ![v24, v26, v28, v30] (arg3.view.read (Elt F) X3) (arg4.view.read (Elt F) X4) (arg6.view.read (Elt F) G6) (arg7.view.read (Elt F) G7)

set_option warn.classDefReducibility false in
/-- The loop by its invariant: before trip `k` the two buffers hold the running maxima and sums of the first `k` blocks. -/
@[sl_loop] def loop_blocks (E : Set ℕ) (X3 : BufTy.Contents (Elt F) arg3.view.ty) (X4 : BufTy.Contents (Elt F) arg4.view.ty)
    (G6 : BufTy.Contents (Elt F) arg6.view.ty) (G7 : BufTy.Contents (Elt F) arg7.view.ty) :
    LoopInvTy_k0_t1 (F := F) Unit ℕ (UR sig nD τ) ℕ Variants.none c none E i arg2 harg2 arg3 harg3 arg4 harg4 arg5 harg5 arg6 harg6 arg7 harg7 v3 v4 v22 v24 v26 v28 v30 v31 v32 where
  inv k _ := iprop((arg3.view.loc (c : Thread nD τ) ↦[arg3.view.set]{fullShare} X3) ∗ (arg4.view.loc (c : Thread nD τ) ↦[arg4.view.set]{fullShare} X4)
    ∗ (∃ f, (arg6.view.loc (c : Thread nD τ) ↦[arg6.view.set]{fullShare} f) ∗ ⌜f = cont6 (F := F) arg6 harg6 G6 (loopMA arg3 arg4 arg6 arg7 v24 v26 v28 v30 X3 X4 G6 G7) k⌝)
    ∗ (∃ f, (arg7.view.loc (c : Thread nD τ) ↦[arg7.view.set]{fullShare} f) ∗ ⌜f = cont7 (F := F) arg7 harg7 G7 (loopMA arg3 arg4 arg6 arg7 v24 v26 v28 v30 X3 X4 G6 G7) k⌝))
  step k acc := by
    have r6 := read_cont6 (F := F) arg6 harg6 G6 (loopMA arg3 arg4 arg6 arg7 v24 v26 v28 v30 X3 X4 G6 G7) rfl k.val
    have r7 := read_cont7 (F := F) arg7 harg7 G7 (loopMA arg3 arg4 arg6 arg7 v24 v26 v28 v30 X3 X4 G6 G7) rfl k.val
    iintro ⟨HR_arg3, HR_arg4, ⟨%f_arg6, HW_arg6, %h_arg6⟩, ⟨%f_arg7, HW_arg7, %h_arg7⟩⟩
    iapply (wp_wand_r Idealize.ShloMosaic.frame (wpE (defs₀ (F := F)) Variants.none (c : Thread nD τ) none) E)
    isplitl [HR_arg3 HR_arg4 HW_arg6 HW_arg7]
    · iapply (trip1 (F := F) c i arg2 harg2 arg3 harg3 arg4 harg4 arg5 harg5 arg6 harg6 arg7 harg7 v3 v4 v22 v24 v26 v28 v30 v31 v32 X3 X4 f_arg6 f_arg7 k E)
      isplitl [HR_arg3]; · iexact HR_arg3
      isplitl [HR_arg4]; · iexact HR_arg4
      isplitl [HW_arg6]; · iexact HW_arg6
      iexact HW_arg7
    · iintro %_ ⟨HR_arg3, HR_arg4, ⟨%g6, HW_arg6, %e6⟩, ⟨%g7, HW_arg7, %e7⟩⟩
      subst h_arg6 h_arg7
      rw [r6] at e6
      rw [r6, r7] at e7
      isplitl [HR_arg3]; · iexact HR_arg3
      isplitl [HR_arg4]; · iexact HR_arg4
      isplitl [HW_arg6]
      · iexists _; isplitl [HW_arg6]; · iexact HW_arg6
        ipureintro; exact harg6.eq_unread e6
      iexists _; isplitl [HW_arg7]; · iexact HW_arg7
      ipureintro; exact harg7.eq_unread e7

end Cert.KernelIdeal.Att

end
-- ==== Proof.Body.lean ====
/- What one run of the kernel's body stores. -/
module

public import proofs.«01_k».proof.Proof.Trip
public import proofs.«01_k».proof.Proof.Gen.KernelIdeal.Frame.Runs
public import Idealize.ShloMosaic.Lib.LoopRemainder

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F] [Named F]

local notation "𝕄" => MT nD τ sig Unit (Elt F) ℕ (UR sig nD τ) ℕ

/-- The running maxima and sums of query block `i` after the key blocks wholly before it. -/
def atEnd (i : grid0.Coords) (x0 : Vec F S1x256x512 .bf16) (x1 x2 : Vec F S1x8192x512 .bf16) : Vec F S4x256x1 .f32 × Vec F S4x256x128 .f32 :=
  runMA (qHead x0) x1 x2 (k0_pay48 k0_pay47) k0_pay49 ((i 1).val / 4)

/-- The masked scores of head `h` against the last key block. -/
def lastScore (i : grid0.Coords) (x0 : Vec F S1x256x512 .bf16) (x1 : Vec F S1x8192x512 .bf16) (h : Fin 4) : FVec F S256x1024 .f32 :=
  k0_pay61 (k0_pay42 i) (iota .tc S256x1024 32 [1] iota_S256x1024_d1_w32) (qHead x0 h) (BitVec.ofNat 32 (1024 * ((i 1).val / 4))) (kvHead x1 ((i 1).val / 4) h)

/-- Head `h`'s sums after the last key block. -/
def headOut (i : grid0.Coords) (x0 : Vec F S1x256x512 .bf16) (x1 x2 : Vec F S1x8192x512 .bf16) (h : Fin 4) : Vec F S1x256x128 .f32 :=
  k0_pay11 (lastScore i x0 x1 h) (slabM (atEnd i x0 x1 x2).1 h) (slabA (atEnd i x0 x1 x2).2 h) (kvHead x2 ((i 1).val / 4) h)

/-- The block stored at grid point `i`. -/
def outBlk (i : grid0.Coords) (x0 : Vec F S1x256x512 .bf16) (x1 x2 : Vec F S1x8192x512 .bf16) : Vec F S1x256x256 .f32 :=
  k0_pay1 (k0_pay79 (headOut i x0 x1 x2 0) (headOut i x0 x1 x2 0)) (k0_pay80 (headOut i x0 x1 x2 1) (headOut i x0 x1 x2 1))
    (k0_pay81 (headOut i x0 x1 x2 2)) (k0_pay82 (headOut i x0 x1 x2 2)) (headOut i x0 x1 x2 3) (headOut i x0 x1 x2 3)

/-- What the buffer of maxima reads when the loop ends. -/
theorem loop_endM (i : grid0.Coords) (arg3 : Memref sig .tc .vmem S1x8192x512 .bf16) (harg3 : arg3.IsWhole) (arg4 : Memref sig .tc .vmem S1x8192x512 .bf16) (harg4 : arg4.IsWhole) (arg6 : Memref sig .tc .vmem S4x256x1 .f32) (harg6 : arg6.IsWhole) (arg7 : Memref sig .tc .vmem S4x256x128 .f32)
    (x0 : Vec F S1x256x512 .bf16) (x1 x2 : Vec F S1x8192x512 .bf16) (G6 G7) (r0 r1 r2 r3 : FVec F S256x128 .bf16)
    (h6 : arg6.view.read (Elt F) G6 = k0_pay48 k0_pay47) (h7 : arg7.view.read (Elt F) G7 = k0_pay49) (hq : ![r0, r1, r2, r3] = qHead x0) :
    arg6.view.read (Elt F) (cont6 (F := F) arg6 harg6 G6 (loopMA arg3 arg4 arg6 arg7 r0 r1 r2 r3 (harg3.unread x1) (harg4.unread x2) G6 G7) (k0_t1_loop i).trips)
      = (atEnd i x0 x1 x2).1 := by
  refine (read_cont6 (F := F) arg6 harg6 G6 _ rfl _).trans ?_
  rw [trips_eq]
  unfold loopMA atEnd
  rw [h6, h7, hq, harg3.read_unread, harg4.read_unread]

/-- What the buffer of sums reads when the loop ends. -/
theorem loop_endA (i : grid0.Coords) (arg3 : Memref sig .tc .vmem S1x8192x512 .bf16) (harg3 : arg3.IsWhole) (arg4 : Memref sig .tc .vmem S1x8192x512 .bf16) (harg4 : arg4.IsWhole) (arg6 : Memref sig .tc .vmem S4x256x1 .f32) (arg7 : Memref sig .tc .vmem S4x256x128 .f32) (harg7 : arg7.IsWhole)
    (x0 : Vec F S1x256x512 .bf16) (x1 x2 : Vec F S1x8192x512 .bf16) (G6 G7) (r0 r1 r2 r3 : FVec F S256x128 .bf16)
    (h6 : arg6.view.read (Elt F) G6 = k0_pay48 k0_pay47) (h7 : arg7.view.read (Elt F) G7 = k0_pay49) (hq : ![r0, r1, r2, r3] = qHead x0) :
    arg7.view.read (Elt F) (cont7 (F := F) arg7 harg7 G7 (loopMA arg3 arg4 arg6 arg7 r0 r1 r2 r3 (harg3.unread x1) (harg4.unread x2) G6 G7) (k0_t1_loop i).trips)
      = (atEnd i x0 x1 x2).2 := by
  refine (read_cont7 (F := F) arg7 harg7 G7 _ rfl _).trans ?_
  rw [trips_eq]
  unfold loopMA atEnd
  rw [h6, h7, hq, harg3.read_unread, harg4.read_unread]

/-- What a load of the sums stored by the four heads reads. -/
theorem readCov_head (v7 : View sig .tc .vmem S4x256x128 .f32) (i0 i1 i2 i3) (p0 p1 p2 p3 : Vec F S1x256x128 .f32)
    (off : Fin 3 → ℕ) (inb) (h : Fin 4) (e : off = ![h.val, 0, 0]) :
    v7.readCov [⟨Rect.unit (s := S4x256x128) ![3, 0, 0] S1x256x128.size i3, p3⟩, ⟨Rect.unit (s := S4x256x128) ![2, 0, 0] S1x256x128.size i2, p2⟩, ⟨Rect.unit (s := S4x256x128) ![1, 0, 0] S1x256x128.size i1, p1⟩, ⟨Rect.unit (s := S4x256x128) ![0, 0, 0] S1x256x128.size i0, p0⟩]
      (Rect.unit (s := S4x256x128) off S1x256x128.size inb).toLoadRect = (![p0, p1, p2, p3] : Fin 4 → Vec F S1x256x128 .f32) h :=
  (congrArg (fun X => View.ld X (Rect.unit (s := S4x256x128) off S1x256x128.size inb)) (read4A (v7 := v7) v7.junk i0 i1 i2 i3 p0 p1 p2 p3)).trans
    ((ld_A _ off inb h e).trans (slab_stackA _ h))

set_option backward.isDefEq.respectTransparency false in
/-- The body, run on whole staging buffers, stores the block. -/
theorem body_run (c : Dev nD) (i : grid0.Coords) (arg2 : Memref sig .tc .vmem S1x256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S1x256x256 .f32) (harg5 : arg5.IsWhole) (arg6 : Memref sig .tc .vmem S4x256x1 .f32) (harg6 : arg6.IsWhole) (arg7 : Memref sig .tc .vmem S4x256x128 .f32) (harg7 : arg7.IsWhole)
    (x0 : Vec F S1x256x512 .bf16) (x1 : Vec F S1x8192x512 .bf16) (x2 : Vec F S1x8192x512 .bf16) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare (outBlk i x0 x1 x2) ∗ (∃ d, owns (c : Thread nD τ) arg6 fullShare d) ∗ (∃ d, owns (c : Thread nD τ) arg7 fullShare d)) -∗ K ⟨⟩))
          ⊢ wp frame (wpE (defs₀ (F := F)) Variants.none c none) E (cc0_mla_attention i arg2 harg2 arg3 harg3 arg4 harg4 arg5 harg5 arg6 harg6 arg7 harg7) K := by
    simp only [cc0_mla_attention_eq_skeleton]; unfold cc0_mla_attention_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec
    sl_step
    have g6 := fun f => read_whole (F := F) arg6.view f (off := ![0, 0, 0]) (by decide +kernel) inb_S4x256x1_S4x256x1_0_0_0 (k0_pay48 (F := F) k0_pay47)
    have g7 := fun f => read_whole (F := F) arg7.view f (off := ![0, 0, 0]) (by decide +kernel) inb_S4x256x128_S4x256x128_0_0_0 (k0_pay49 (F := F))
    have q0 : body_run.sl.r c arg2 harg2 x0 = qHead x0 0 :=
      (congrArg (fun X => k0_pay43 (View.ld X (Rect.unit (s := S1x256x512) ![0, 0, 0] S1x256x128.size inb_S1x256x512_S1x256x128_0_0_0))) (harg2.read_unread x0)).trans (ld_q x0 _ inb_S1x256x512_S1x256x128_0_0_0 0 rfl)
    have q1 : body_run.sl.r_1 c arg2 harg2 x0 = qHead x0 1 :=
      (congrArg (fun X => k0_pay44 (View.ld X (Rect.unit (s := S1x256x512) ![0, 0, 128] S1x256x128.size inb_S1x256x512_S1x256x128_0_0_128))) (harg2.read_unread x0)).trans (ld_q x0 _ inb_S1x256x512_S1x256x128_0_0_128 1 rfl)
    have q2 : body_run.sl.r_2 c arg2 harg2 x0 = qHead x0 2 :=
      (congrArg (fun X => k0_pay45 (View.ld X (Rect.unit (s := S1x256x512) ![0, 0, 256] S1x256x128.size inb_S1x256x512_S1x256x128_0_0_256))) (harg2.read_unread x0)).trans (ld_q x0 _ inb_S1x256x512_S1x256x128_0_0_256 2 rfl)
    have q3 : body_run.sl.r_3 c arg2 harg2 x0 = qHead x0 3 :=
      (congrArg (fun X => k0_pay46 (View.ld X (Rect.unit (s := S1x256x512) ![0, 0, 384] S1x256x128.size inb_S1x256x512_S1x256x128_0_0_384))) (harg2.read_unread x0)).trans (ld_q x0 _ inb_S1x256x512_S1x256x128_0_0_384 3 rfl)
    have hq : ![body_run.sl.r c arg2 harg2 x0, body_run.sl.r_1 c arg2 harg2 x0, body_run.sl.r_2 c arg2 harg2 x0, body_run.sl.r_3 c arg2 harg2 x0] = qHead x0 := by
      rw [q0, q1, q2, q3]; funext h; fin_cases h <;> rfl
    have hw : body_run.sl.v44 i = BitVec.ofNat 32 (1024 * ((i 1).val / 4)) :=
      (by decide +kernel : ∀ i : grid0.Coords, body_run.sl.v44 i = BitVec.ofNat 32 (1024 * ((i 1).val / 4))) i
    have m0 : body_run.sl.v64 c i arg2 harg2 arg3 harg3 arg4 harg4 arg6 harg6 arg7 x0 x1 x2 = slabM (atEnd i x0 x1 x2).1 0 :=
      (congrArg (fun X => View.ld X (Rect.unit (s := S4x256x1) ![0, 0, 0] S1x256x1.size inb_S4x256x1_S1x256x1_0_0_0)) (loop_endM i arg3 harg3 arg4 harg4 arg6 harg6 arg7 x0 x1 x2 _ _ _ _ _ _ (g6 _) (g7 _) hq)).trans (ld_M _ _ inb_S4x256x1_S1x256x1_0_0_0 0 rfl)
    have a0 : body_run.sl.v75 c i arg2 harg2 arg3 harg3 arg4 harg4 arg6 arg7 harg7 x0 x1 x2 = slabA (atEnd i x0 x1 x2).2 0 :=
      (congrArg (fun X => View.ld X (Rect.unit (s := S4x256x128) ![0, 0, 0] S1x256x128.size inb_S4x256x128_S1x256x128_0_0_0)) (loop_endA i arg3 harg3 arg4 harg4 arg6 arg7 harg7 x0 x1 x2 _ _ _ _ _ _ (g6 _) (g7 _) hq)).trans (ld_A _ _ inb_S4x256x128_S1x256x128_0_0_0 0 rfl)
    have k0 := (congrArg (fun X => View.ld X (Rect.unit (s := S1x8192x512) _ S1x1024x128.size (k0_off9_inb i))) (harg3.read_unread x1)).trans (ld_kv x1 _ (k0_off9_inb i) ((i 1).val / 4) 0 (off9_eq i))
    have w0 := (congrArg (fun X => View.ld X (Rect.unit (s := S1x8192x512) _ S1x1024x128.size (k0_off9_inb i))) (harg4.read_unread x2)).trans (ld_kv x2 _ (k0_off9_inb i) ((i 1).val / 4) 0 (off9_eq i))
    have m1 : body_run.sl.v99 c i arg2 harg2 arg3 harg3 arg4 harg4 arg6 harg6 arg7 x0 x1 x2 = slabM (atEnd i x0 x1 x2).1 1 :=
      (congrArg (fun X => View.ld X (Rect.unit (s := S4x256x1) ![1, 0, 0] S1x256x1.size inb_S4x256x1_S1x256x1_1_0_0)) (loop_endM i arg3 harg3 arg4 harg4 arg6 harg6 arg7 x0 x1 x2 _ _ _ _ _ _ (g6 _) (g7 _) hq)).trans (ld_M _ _ inb_S4x256x1_S1x256x1_1_0_0 1 rfl)
    have a1 : body_run.sl.v110 c i arg2 harg2 arg3 harg3 arg4 harg4 arg6 arg7 harg7 x0 x1 x2 = slabA (atEnd i x0 x1 x2).2 1 :=
      (congrArg (fun X => View.ld X (Rect.unit (s := S4x256x128) ![1, 0, 0] S1x256x128.size inb_S4x256x128_S1x256x128_1_0_0)) (loop_endA i arg3 harg3 arg4 harg4 arg6 arg7 harg7 x0 x1 x2 _ _ _ _ _ _ (g6 _) (g7 _) hq)).trans (ld_A _ _ inb_S4x256x128_S1x256x128_1_0_0 1 rfl)
    have k1 := (congrArg (fun X => View.ld X (Rect.unit (s := S1x8192x512) _ S1x1024x128.size (k0_off10_inb i))) (harg3.read_unread x1)).trans (ld_kv x1 _ (k0_off10_inb i) ((i 1).val / 4) 1 (off10_eq i))
    have w1 := (congrArg (fun X => View.ld X (Rect.unit (s := S1x8192x512) _ S1x1024x128.size (k0_off10_inb i))) (harg4.read_unread x2)).trans (ld_kv x2 _ (k0_off10_inb i) ((i 1).val / 4) 1 (off10_eq i))
    have m2 : body_run.sl.v134 c i arg2 harg2 arg3 harg3 arg4 harg4 arg6 harg6 arg7 x0 x1 x2 = slabM (atEnd i x0 x1 x2).1 2 :=
      (congrArg (fun X => View.ld X (Rect.unit (s := S4x256x1) ![2, 0, 0] S1x256x1.size inb_S4x256x1_S1x256x1_2_0_0)) (loop_endM i arg3 harg3 arg4 harg4 arg6 harg6 arg7 x0 x1 x2 _ _ _ _ _ _ (g6 _) (g7 _) hq)).trans (ld_M _ _ inb_S4x256x1_S1x256x1_2_0_0 2 rfl)
    have a2 : body_run.sl.v145 c i arg2 harg2 arg3 harg3 arg4 harg4 arg6 arg7 harg7 x0 x1 x2 = slabA (atEnd i x0 x1 x2).2 2 :=
      (congrArg (fun X => View.ld X (Rect.unit (s := S4x256x128) ![2, 0, 0] S1x256x128.size inb_S4x256x128_S1x256x128_2_0_0)) (loop_endA i arg3 harg3 arg4 harg4 arg6 arg7 harg7 x0 x1 x2 _ _ _ _ _ _ (g6 _) (g7 _) hq)).trans (ld_A _ _ inb_S4x256x128_S1x256x128_2_0_0 2 rfl)
    have k2 := (congrArg (fun X => View.ld X (Rect.unit (s := S1x8192x512) _ S1x1024x128.size (k0_off11_inb i))) (harg3.read_unread x1)).trans (ld_kv x1 _ (k0_off11_inb i) ((i 1).val / 4) 2 (off11_eq i))
    have w2 := (congrArg (fun X => View.ld X (Rect.unit (s := S1x8192x512) _ S1x1024x128.size (k0_off11_inb i))) (harg4.read_unread x2)).trans (ld_kv x2 _ (k0_off11_inb i) ((i 1).val / 4) 2 (off11_eq i))
    have m3 : body_run.sl.v160 c i arg2 harg2 arg3 harg3 arg4 harg4 arg6 harg6 arg7 x0 x1 x2 = slabM (atEnd i x0 x1 x2).1 3 :=
      (congrArg (fun X => View.ld X (Rect.unit (s := S4x256x1) ![3, 0, 0] S1x256x1.size inb_S4x256x1_S1x256x1_3_0_0)) (loop_endM i arg3 harg3 arg4 harg4 arg6 harg6 arg7 x0 x1 x2 _ _ _ _ _ _ (g6 _) (g7 _) hq)).trans (ld_M _ _ inb_S4x256x1_S1x256x1_3_0_0 3 rfl)
    have a3 : body_run.sl.v171 c i arg2 harg2 arg3 harg3 arg4 harg4 arg6 arg7 harg7 x0 x1 x2 = slabA (atEnd i x0 x1 x2).2 3 :=
      (congrArg (fun X => View.ld X (Rect.unit (s := S4x256x128) ![3, 0, 0] S1x256x128.size inb_S4x256x128_S1x256x128_3_0_0)) (loop_endA i arg3 harg3 arg4 harg4 arg6 arg7 harg7 x0 x1 x2 _ _ _ _ _ _ (g6 _) (g7 _) hq)).trans (ld_A _ _ inb_S4x256x128_S1x256x128_3_0_0 3 rfl)
    have k3 := (congrArg (fun X => View.ld X (Rect.unit (s := S1x8192x512) _ S1x1024x128.size (k0_off12_inb i))) (harg3.read_unread x1)).trans (ld_kv x1 _ (k0_off12_inb i) ((i 1).val / 4) 3 (off12_eq i))
    have w3 := (congrArg (fun X => View.ld X (Rect.unit (s := S1x8192x512) _ S1x1024x128.size (k0_off12_inb i))) (harg4.read_unread x2)).trans (ld_kv x2 _ (k0_off12_inb i) ((i 1).val / 4) 3 (off12_eq i))
    have p0 : k0_pay59 (body_run.sl.r_5 c i arg2 harg2 arg3 harg3 x0 x1) (body_run.sl.r_7 c i arg2 harg2 arg3 harg3 arg4 harg4 arg6 harg6 arg7 x0 x1 x2) (body_run.sl.r_8 c i arg2 harg2 arg3 harg3 x0 x1) (body_run.sl.v75 c i arg2 harg2 arg3 harg3 arg4 harg4 arg6 arg7 harg7 x0 x1 x2) (View.readAt (Elt F) arg4.view (Rect.unit (s := S1x8192x512) (k0_off9 i) S1x1024x128.size (k0_off9_inb i)).toLoadRect (harg4.unread x2)) = headOut i x0 x1 x2 0 := by
      show _ = k0_pay11 (k0_pay61 _ _ (qHead x0 0) _ (kvHead x1 _ 0)) (slabM _ 0) (slabA _ 0) (kvHead x2 _ 0)
      rw [← hw, ← m0, ← a0, ← k0, ← w0, ← q0]
      rfl
    have p1 : k0_pay65 (body_run.sl.r_6 c i arg2 harg2 arg3 harg3 x0 x1) (body_run.sl.r_10 c i arg2 harg2 arg3 harg3 arg4 harg4 arg6 harg6 arg7 x0 x1 x2) (body_run.sl.r_11 c i arg2 harg2 arg3 harg3 arg4 harg4 arg6 harg6 arg7 x0 x1 x2) (body_run.sl.r_12 c i arg2 harg2 arg3 harg3 arg4 harg4 arg6 harg6 arg7 x0 x1 x2) (body_run.sl.v110 c i arg2 harg2 arg3 harg3 arg4 harg4 arg6 arg7 harg7 x0 x1 x2) (View.readAt (Elt F) arg4.view (Rect.unit (s := S1x8192x512) (k0_off10 i) S1x1024x128.size (k0_off10_inb i)).toLoadRect (harg4.unread x2)) = headOut i x0 x1 x2 1 := by
      show _ = k0_pay11 (k0_pay61 _ _ (qHead x0 1) _ (kvHead x1 _ 1)) (slabM _ 1) (slabA _ 1) (kvHead x2 _ 1)
      rw [← hw, ← m1, ← a1, ← k1, ← w1, ← q1]
      rfl
    have p2 : k0_pay71 (body_run.sl.r_14 c i arg2 harg2 arg3 harg3 arg4 harg4 arg6 harg6 arg7 x0 x1 x2) (body_run.sl.r_15 c i arg2 harg2 arg3 harg3 arg4 harg4 arg6 harg6 arg7 x0 x1 x2) (body_run.sl.r_16 c i arg2 harg2 arg3 harg3 arg4 harg4 arg6 harg6 arg7 x0 x1 x2) (body_run.sl.v145 c i arg2 harg2 arg3 harg3 arg4 harg4 arg6 arg7 harg7 x0 x1 x2) (View.readAt (Elt F) arg4.view (Rect.unit (s := S1x8192x512) (k0_off11 i) S1x1024x128.size (k0_off11_inb i)).toLoadRect (harg4.unread x2)) = headOut i x0 x1 x2 2 := by
      show _ = k0_pay11 (k0_pay61 _ _ (qHead x0 2) _ (kvHead x1 _ 2)) (slabM _ 2) (slabA _ 2) (kvHead x2 _ 2)
      rw [← hw, ← m2, ← a2, ← k2, ← w2, ← q2]
      rfl
    have p3 : k0_pay77 (body_run.sl.r_18 c i arg2 harg2 arg3 harg3 arg4 harg4 arg6 harg6 arg7 harg7 x0 x1 x2) (body_run.sl.r_19 c i arg2 harg2 arg3 harg3 arg4 harg4 arg6 harg6 arg7 x0 x1 x2) = headOut i x0 x1 x2 3 := by
      show _ = k0_pay11 (k0_pay61 _ _ (qHead x0 3) _ (kvHead x1 _ 3)) (slabM _ 3) (slabA _ 3) (kvHead x2 _ 3)
      rw [← hw, ← m3, ← a3, ← k3, ← w3, ← q3]
      rfl
    have o0 : body_run.sl.v186 c i arg2 harg2 arg3 harg3 arg4 harg4 arg6 harg6 arg7 harg7 x0 x1 x2 = headOut i x0 x1 x2 0 :=
      (readCov_head arg7.view inb_S4x256x128_S1x256x128_0_0_0 inb_S4x256x128_S1x256x128_1_0_0 inb_S4x256x128_S1x256x128_2_0_0 inb_S4x256x128_S1x256x128_3_0_0 _ _ _ _ _ inb_S4x256x128_S1x256x128_0_0_0 0 rfl).trans p0
    have o1 : body_run.sl.v196 c i arg2 harg2 arg3 harg3 arg4 harg4 arg6 harg6 arg7 harg7 x0 x1 x2 = headOut i x0 x1 x2 1 :=
      (readCov_head arg7.view inb_S4x256x128_S1x256x128_0_0_0 inb_S4x256x128_S1x256x128_1_0_0 inb_S4x256x128_S1x256x128_2_0_0 inb_S4x256x128_S1x256x128_3_0_0 _ _ _ _ _ inb_S4x256x128_S1x256x128_1_0_0 1 rfl).trans p1
    have o2 : body_run.sl.v206 c i arg2 harg2 arg3 harg3 arg4 harg4 arg6 harg6 arg7 harg7 x0 x1 x2 = headOut i x0 x1 x2 2 :=
      (readCov_head arg7.view inb_S4x256x128_S1x256x128_0_0_0 inb_S4x256x128_S1x256x128_1_0_0 inb_S4x256x128_S1x256x128_2_0_0 inb_S4x256x128_S1x256x128_3_0_0 _ _ _ _ _ inb_S4x256x128_S1x256x128_2_0_0 2 rfl).trans p2
    have o3 : body_run.sl.v216 c i arg2 harg2 arg3 harg3 arg4 harg4 arg6 harg6 arg7 harg7 x0 x1 x2 = headOut i x0 x1 x2 3 :=
      (readCov_head arg7.view inb_S4x256x128_S1x256x128_0_0_0 inb_S4x256x128_S1x256x128_1_0_0 inb_S4x256x128_S1x256x128_2_0_0 inb_S4x256x128_S1x256x128_3_0_0 _ _ _ _ _ inb_S4x256x128_S1x256x128_3_0_0 3 rfl).trans p3
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_whole (F := F) arg5.view f3 (off := ![0, 0, 0]) (by decide +kernel) inb_S1x256x256_S1x256x256_0_0_0 _).trans ?_
      show _ = k0_pay1 (k0_pay79 _ _) (k0_pay80 _ _) (k0_pay81 _) (k0_pay82 _) _ _
      rw [← o0, ← o1, ← o2, ← o3]
      rfl
    isplitl [HS0]
    · iexists _, _; isplitr; swap; · iexact HS0
      ipureintro; rfl
    iexists _, _; isplitr; swap; · iexact HS1
    ipureintro; rfl

end Cert.KernelIdeal.Att

end
-- ==== Proof.Run.lean ====
/- The launch: every grid point stores its block, and the arrays it was given end as they were. -/
module

public import proofs.«01_k».proof.Proof.Body
public import Idealize.ShloMosaic.Lib.Pipeline.Value
public import Idealize.ShloMosaic.Lib.Pipeline.ValueKit

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block point `t` stores. -/
def stored (c : Dev nD) (t : Fin cfg0.N) : Vec F S1x256x256 .f32 :=
  outBlk (grid0.coords t) (iblk m c 0 t) (iblk m c 1 t) (iblk m c 2 t)

/-- The proof data of the launch: inputs keep their blocks, the output's buffer ends with the stored block. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => stored m c t
  Φ _ := Pipeline.ΦA spec0 c
  q _ := fullShare
  owed _ := 0

theorem dat_A (c : Dev nD) (w : Fin cfg0.W) : (dat m 0 c).A w = V m c (Pipeline.arrRef spec0 w) := by dsimp only [dat]

theorem left0 (c : Dev nD) (t : Fin cfg0.N) : (dat m 0 c).after 0 t = iblk m c 0 t := by dsimp only [dat]
theorem left1 (c : Dev nD) (t : Fin cfg0.N) : (dat m 0 c).after 1 t = iblk m c 1 t := by dsimp only [dat]
theorem left2 (c : Dev nD) (t : Fin cfg0.N) : (dat m 0 c).after 2 t = iblk m c 2 t := by dsimp only [dat]
theorem left3 (c : Dev nD) (t : Fin cfg0.N) : (dat m 0 c).after 3 t = stored m c t := by dsimp only [dat]

theorem found0 (c : Dev nD) (t : Fin cfg0.N) (d) : (dat m 0 c).before 0 t d = iblk m c 0 t :=
  before0_0_of m (dat m 0 c) (dat_A m c 0) (left0 m c) t d
theorem found1 (c : Dev nD) (t : Fin cfg0.N) (d) : (dat m 0 c).before 1 t d = iblk m c 1 t :=
  before0_1_of m (dat m 0 c) (dat_A m c 1) (left1 m c) t d
theorem found2 (c : Dev nD) (t : Fin cfg0.N) (d) : (dat m 0 c).before 2 t d = iblk m c 2 t :=
  before0_2_of m (dat m 0 c) (dat_A m c 2) (left2 m c) t d

/-- The body at point `t`, from the buffers as the launch hands them over to the buffers as it takes them back. -/
theorem point_run (c : Dev nD) (t : Fin cfg0.N) :
    iprop((dat m 0 c).Φ t.castSucc ∗ (dat m 0 c).owesAt () t.castSucc
      ∗ (∃ d, owns (c : Thread nD τ) (ms0_0 t) fullShare ((dat m 0 c).before 0 t d))
      ∗ (∃ d, owns (c : Thread nD τ) (ms0_1 t) fullShare ((dat m 0 c).before 1 t d))
      ∗ (∃ d, owns (c : Thread nD τ) (ms0_2 t) fullShare ((dat m 0 c).before 2 t d))
      ∗ (∃ d, owns (c : Thread nD τ) (ms0_3 t) fullShare ((dat m 0 c).before 3 t d)))
    ⊢ wp frame (wpE (defs₀ (F := F)) Variants.none c none) Set.univ (bodyAt0 t) (fun _ => iprop((dat m 0 c).Φ t.succ ∗ (dat m 0 c).owesAt () t.succ
      ∗ owns (c : Thread nD τ) (ms0_0 t) fullShare ((dat m 0 c).after 0 t)
      ∗ owns (c : Thread nD τ) (ms0_1 t) fullShare ((dat m 0 c).after 1 t)
      ∗ owns (c : Thread nD τ) (ms0_2 t) fullShare ((dat m 0 c).after 2 t)
      ∗ owns (c : Thread nD τ) (ms0_3 t) fullShare ((dat m 0 c).after 3 t))) := by
  unfold bodyAt0
  simp only [found0, found1, found2]
  rw [show (dat m 0 c).Φ t.succ = (dat m 0 c).Φ t.castSucc from rfl,
    show (dat m 0 c).owesAt () t.succ = (dat m 0 c).owesAt () t.castSucc from rfl, left0, left1, left2, left3]
  rw [show (dat m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply (body_run c (grid0.coords t) _ (hs0_0 t) _ (hs0_1 t) _ (hs0_2 t) _ (hs0_3 t) scM0_0 (Memref.isWhole_whole _) scM0_1 (Memref.isWhole_whole _) (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem body_row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, body_row]
  exact triple_restated (point_run m c t) rfl .rfl fun _ => .rfl

set_option backward.isDefEq.respectTransparency.types false in
/-- The launch runs to its end: every array as the stored blocks make it, every counter at zero. -/
theorem launch_run : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m) (hΦ := fun _ _ => rfl)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dat m) (dat_A m) ((θ_run defs _ _).mono (fun _ h => h.1) (launch_run m ρ)))
    ((θ_run defs _ _).mono (fun _ h => h.2) (launch_run m ρ))

/-- The result array. -/
theorem result_run : θ_run defs (onTc (τ := τ) (main (F := F))) ⟨m, fun _ => 0, ρ⟩ (fun r => ∀ c : Dev nD,
      r.2.mem ((c : Thread nD τ).loc main_v0) = (dat m 0 c).arrAt 3 cfg0.N) :=
  (θ_run defs _ _).mono (fun _ h c => (h.1 c).1 3) (launch_run m ρ)

end Cert.KernelIdeal.Att

end
-- ==== Proof.Plain.lean ====
/- The printed kernel's frame, from its idealization's: the two programs are one where a named constant means its bits. -/
module

public import proofs.«01_k».proof.Defs
public import proofs.«01_k».proof.Proof.Gen.Kernel
public import proofs.«01_k».proof.Proof.Run

@[expose] public section

set_option maxRecDepth 16384

noncomputable section

namespace Cert.Plain

open Idealize.ShloMosaic Idealize.ShloMosaic.TcCoe Idealize.SL.Sem

/-- A named constant read as the float its bits denote. -/
@[instance_reducible] def asBits (F : FTy → Type) [FloatOps F] : Named F := ⟨fun _ _ {φ} bits => FloatOps.ofBits φ bits⟩

instance : Cert.Kernel.Facts := Cert.Kernel.Gen.facts
instance : Cert.KernelIdeal.Facts := Cert.KernelIdeal.Gen.facts

/-- With a named constant read as its bits, the idealization's body is the printed one. -/
theorem body_same : @Cert.Kernel.cc0_mla_attention Bits _ _ = @Cert.KernelIdeal.cc0_mla_attention Bits _ (asBits Bits) _ := rfl

theorem sig_same : Cert.Kernel.sig = Cert.KernelIdeal.sig := rfl
theorem main_same : @Cert.Kernel.main Bits _ = @Cert.KernelIdeal.main Bits _ := rfl
theorem defs_same : @Cert.Kernel.defs Bits _ _ = @Cert.KernelIdeal.defs Bits _ (asBits Bits) _ := by
  sl_kernel_rfl

theorem frame_plain : Cert.quiescent_Kernel (hKernel := Cert.Kernel.Gen.facts) := fun m g _ => by
  have h := @Cert.KernelIdeal.Att.frame_run Bits _ (asBits Bits) m g
  rw [← defs_same, ← main_same] at h
  exact h

end Cert.Plain

end
-- ==== Proof.Values.lean ====
/- The body's stored values read at an index, over the extended reals. -/
module

public import proofs.«01_k».proof.Proof.Body
public import Idealize.ShloMosaic.Lib.Pointwise

@[expose] public section

set_option maxRecDepth 16384

noncomputable section

namespace Cert.KernelIdeal.Att

open Idealize.ShloMosaic Cert.KernelIdeal.Gen

/-- A block's scores: row `r` of the queries against row `x` of the keys. -/
theorem pay3_at (q : FVec Ideal S256x128 .bf16) (k : Vec Ideal S1x1024x128 .bf16) (r : Fin 256) (x : Fin 1024) :
    k0_pay3 q k (ix2 r x) = ∑ l : Fin 128, q (ix2 r l) * k (ix3 0 x l) := by
  pointwise [k0_pay3]

theorem ninf : Ideal.ofBits .f32 0xFF800000#32 = ⊥ := by simp [Ideal.ofBits, Ideal.ieee]

/-- The running maximum after a block. -/
theorem pay10_at (s : FVec Ideal S256x1024 .f32) (M : Vec Ideal S1x256x1 .f32) (r : Fin 256) :
    k0_pay10 s M (ix2 r 0) = max (M (ix3 0 r 0)) (Finset.univ.fold max ⊥ fun x : Fin 1024 => s (ix2 r x)) := by
  pointwise [k0_pay10, k0_pay9]
  rw [ninf]

theorem pay12_at (s : FVec Ideal S256x1024 .f32) (M : Vec Ideal S1x256x1 .f32) (r : Fin 256) :
    k0_pay12 s M (ix3 0 r 0) = k0_pay10 s M (ix2 r 0) := by
  pointwise [k0_pay12]

theorem pay11_at (s : FVec Ideal S256x1024 .f32) (M : Vec Ideal S1x256x1 .f32) (A : Vec Ideal S1x256x128 .f32) (v : Vec Ideal S1x1024x128 .bf16)
    (r : Fin 256) (d : Fin 128) :
    k0_pay11 s M A v (ix3 0 r d) = Ideal.exp (M (ix3 0 r 0) - k0_pay10 s M (ix2 r 0)) * A (ix3 0 r d)
      + ∑ x : Fin 1024, Ideal.exp (s (ix2 r x) - k0_pay10 s M (ix2 r 0)) * v (ix3 0 x d) := by
  pointwise [k0_pay11, k0_pay9]

/-- A head's output: the sums of its first 64 lanes times the reciprocal of lane 64. -/
def normal (a : Vec Ideal S1x256x128 .f32) (r : Fin 256) (d : Fin 64) : EReal := a (ix3 0 r ⟨d.val, by omega⟩) * Ideal.div 1 (a (ix3 0 r 64))

theorem pay79_at (v : Vec Ideal S1x256x128 .f32) (r : Fin 256) (d : Fin 64) : k0_pay79 v v (ix2 r d) = normal v r d := by
  pointwise [k0_pay79, normal]

theorem pay80_at (v : Vec Ideal S1x256x128 .f32) (r : Fin 256) (d : Fin 64) : k0_pay80 v v (ix2 r d) = normal v r d := by
  pointwise [k0_pay80, normal]

/-- The four heads' outputs side by side. -/
theorem pay1_at (a : Fin 4 → Vec Ideal S1x256x128 .f32) (r : Fin 256) (h : Fin 4) (d : Fin 64) :
    k0_pay1 (k0_pay79 (a 0) (a 0)) (k0_pay80 (a 1) (a 1)) (k0_pay81 (a 2)) (k0_pay82 (a 2)) (a 3) (a 3)
      (ix3 0 r ⟨64 * h.val + d.val, by omega⟩) = normal (a h) r d := by
  match h with
  | 0 => pointwise [k0_pay1, k0_pay81, k0_pay82]; exact pay79_at (a 0) r d
  | 1 => pointwise [k0_pay1, k0_pay81, k0_pay82]; exact pay80_at (a 1) r d
  | 2 =>
    pointwise [k0_pay1, k0_pay81, k0_pay82, normal]
    have e : 128 + d.val - 64 - 64 = d.val := by omega
    rw [dif_neg (show ¬ 128 + d.val < 64 by omega), dif_neg (show ¬ 128 + d.val - 64 < 64 by omega),
      dif_pos (show 128 + d.val - 64 - 64 < 64 by omega)]
    simp only [e]
  | 3 =>
    pointwise [k0_pay1, k0_pay81, k0_pay82, normal]
    have e : 192 + d.val - 64 - 64 - 64 = d.val := by omega
    rw [dif_neg (show ¬ 192 + d.val < 64 by omega), dif_neg (show ¬ 192 + d.val - 64 < 64 by omega),
      dif_neg (show ¬ 192 + d.val - 64 - 64 < 64 by omega)]
    simp only [e]

theorem masked_value : Named.named (F := Ideal) κ "mask" (φ := .f32) 0xF149F2CA#32 = ⊥ := IdealRules.named_const.ideal_named_scalar _ _ _ _ rfl

/-- Before the first block: every maximum `-∞`. -/
theorem start_max (y : S4x256x1.Idx) : k0_pay48 (F := Ideal) (k0_pay47 (F := Ideal)) y = ⊥ := by
  pointwise [k0_pay48, k0_pay47]
  exact masked_value

/-- Before the first block: every sum zero. -/
theorem start_sum (y : S4x256x128.Idx) : k0_pay49 (F := Ideal) y = 0 := by
  pointwise [k0_pay49]

/-- Words of small numbers compare as the numbers. -/
theorem sle_small {a b : ℕ} (ha : a < 2 ^ 31) (hb : b < 2 ^ 31) : (BitVec.ofNat 32 a).sle (BitVec.ofNat 32 b) = decide (a ≤ b) := by
  rw [BitVec.sle_eq_decide, BitVec.toInt_eq_toNat_of_lt, BitVec.toInt_eq_toNat_of_lt]
  · simp only [BitVec.toNat_ofNat]
    rw [Nat.mod_eq_of_lt (by omega), Nat.mod_eq_of_lt (by omega)]
    simp
  all_goals (simp only [BitVec.toNat_ofNat]; omega)

/-- The last block's scores are masked after the query's own position. -/
theorem lastScore_at (i : grid0.Coords) (x0 : Vec Ideal S1x256x512 .bf16) (x1 : Vec Ideal S1x8192x512 .bf16) (h : Fin 4) (r : Fin 256) (x : Fin 1024) :
    lastScore (F := Ideal) i x0 x1 h (ix2 r x)
      = if 1024 * ((i 1).val / 4) + x.val ≤ 256 * (i 1).val + r.val then score (qHead x0) (kvHead x1 ((i 1).val / 4)) h (ix2 r x) else ⊥ := by
  have hi : (i 1).val < 32 := (i 1).isLt
  have hw : IntOp.cmpi CmpIPredicate.sle (IntOp.addi (BitVec.ofNat 32 (1024 * ((i 1).val / 4))) (iota .tc S256x1024 32 [1] iota_S256x1024_d1_w32 (ix2 r x)))
      (k0_pay42 i (ix2 r x)) = BitVec.ofBool (decide (1024 * ((i 1).val / 4) + x.val ≤ 256 * (i 1).val + r.val)) := by
    have e1 : IntOp.addi (BitVec.ofNat 32 (1024 * ((i 1).val / 4))) (iota .tc S256x1024 32 [1] iota_S256x1024_d1_w32 (ix2 r x))
        = BitVec.ofNat 32 (1024 * ((i 1).val / 4) + x.val) := by
      pointwise
      exact (BitVec.ofNat_add _ _).symm
    have e2 : k0_pay42 i (ix2 r x) = BitVec.ofNat 32 (256 * (i 1).val + r.val) := by
      pointwise [k0_pay42]
      rw [Nat.mul_comm, BitVec.ofNat_add, BitVec.ofNat_mul]
      rfl
    rw [e1, e2]
    show BitVec.ofBool (BitVec.sle _ _) = _
    rw [sle_small (by omega) (by omega)]
  refine (show lastScore (F := Ideal) i x0 x1 h (ix2 r x)
      = Scalar.select (IntOp.cmpi CmpIPredicate.sle (IntOp.addi (BitVec.ofNat 32 (1024 * ((i 1).val / 4))) (iota .tc S256x1024 32 [1] iota_S256x1024_d1_w32 (ix2 r x)))
          (k0_pay42 i (ix2 r x))) (score (qHead x0) (kvHead x1 ((i 1).val / 4)) h (ix2 r x)) (Named.named (F := Ideal) κ "mask" (φ := .f32) 0xF149F2CA#32) from ?_).trans ?_
  · pointwise [lastScore, k0_pay61, score, k0_pay3]
  rw [hw, masked_value]
  by_cases hc : 1024 * ((i 1).val / 4) + x.val ≤ 256 * (i 1).val + r.val
  · rw [if_pos hc, decide_eq_true hc]; rfl
  · rw [if_neg hc, decide_eq_false hc]; rfl

end Cert.KernelIdeal.Att

end
-- ==== Proof.Soft.lean ====
/- Extended-real facts about a softmax computed block by block with a running maximum. -/
module

public import Idealize.ShloMosaic.PureOps.Ideal.Laws

@[expose] public section

noncomputable section

namespace Cert.Soft

open Idealize.ShloMosaic

/-- A score: masked (`-∞`) or a real number. -/
def Score (s : EReal) : Prop := s = ⊥ ∨ ∃ r : ℝ, s = r

/-- The real weight of a score: its exponential, zero where masked. -/
def wt (s : EReal) : ℝ := (Ideal.exp s).toReal

theorem wt_bot : wt ⊥ = 0 := EReal.toReal_zero
theorem wt_coe (r : ℝ) : wt r = Real.exp r := by
  show (Ideal.exp (r : EReal)).toReal = _
  show ((Real.exp r : ℝ) : EReal).toReal = _
  exact EReal.toReal_coe _

theorem wt_nonneg {s : EReal} (h : Score s) : 0 ≤ wt s := by
  rcases h with rfl | ⟨r, rfl⟩
  · rw [wt_bot]
  · rw [wt_coe]; exact (Real.exp_pos r).le

/-- The exponential of a score less a real shift is the weight times the shift's factor. -/
theorem exp_sub {s : EReal} (h : Score s) (c : ℝ) : Ideal.exp (s - c) = ((Real.exp (-c) * wt s : ℝ) : EReal) := by
  rcases h with rfl | ⟨r, rfl⟩
  · rw [wt_bot, mul_zero, EReal.bot_sub]; rfl
  · rw [wt_coe, ← Real.exp_add, ← EReal.coe_sub]
    show ((Real.exp (r - c) : ℝ) : EReal) = _
    congr 2; ring

/-- A nonnegative real factor distributes over a finite sum. -/
theorem coe_mul_sum {ι : Type*} (S : Finset ι) (a : ℝ) (ha : 0 ≤ a) (f : ι → EReal) :
    (a : EReal) * ∑ i ∈ S, f i = ∑ i ∈ S, (a : EReal) * f i := by
  classical
  induction S using Finset.induction_on with
  | empty => simp
  | insert i S hi ih =>
    rw [Finset.sum_insert hi, Finset.sum_insert hi, ← ih]
    exact EReal.left_distrib_of_nonneg_of_ne_top (by exact_mod_cast ha) (EReal.coe_ne_top a) _ _

/-- A finite sum of real numbers, as an extended real. -/
theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

theorem score_max {s t : EReal} (hs : Score s) (ht : Score t) : Score (max s t) := by
  rcases max_choice s t with h | h <;> rw [h] <;> assumption

/-- The maximum of scores, one of them real, is real. -/
theorem max_real {ι : Type*} [DecidableEq ι] (S : Finset ι) (M : EReal) (hM : Score M) (s : ι → EReal) (hs : ∀ i ∈ S, Score (s i))
    (j : ι) (hj : j ∈ S) (hr : s j ≠ ⊥) : ∃ c : ℝ, max M (S.fold max ⊥ s) = c := by
  have hF : ∀ T : Finset ι, (∀ i ∈ T, Score (s i)) → Score (T.fold max ⊥ s) := by
    intro T
    induction T using Finset.induction_on with
    | empty => intro _; exact Or.inl rfl
    | insert i T hi ih =>
      intro h
      rw [Finset.fold_insert hi]
      exact score_max (h i (Finset.mem_insert_self _ _)) (ih fun k hk => h k (Finset.mem_insert_of_mem hk))
  rcases score_max hM (hF S hs) with h | h
  · exfalso
    have h1 : s j ≤ S.fold max ⊥ s := (Finset.le_fold_max (s j)).mpr (Or.inr ⟨j, hj, le_rfl⟩)
    have h2 : S.fold max ⊥ s ≤ ⊥ := (le_max_right M _).trans h.le
    exact hr (le_bot_iff.mp (h1.trans h2))
  · exact h

/-- A running maximum `M` and weighted sum `A` of values whose unshifted weighted sum is `T`: nothing seen yet, or `A` is
    `T` times the factor of the shift `M`. -/
def Held (M A T : EReal) : Prop := (M = ⊥ ∧ A = 0 ∧ T = 0) ∨ ∃ c : ℝ, M = c ∧ A = (Real.exp (-c) : EReal) * T

theorem Held.score {M A T : EReal} (h : Held M A T) : Score M := by
  rcases h with ⟨h, _⟩ | ⟨c, h, _⟩
  · exact Or.inl h
  · exact Or.inr ⟨c, h⟩

/-- One block: the new maximum is real and the rescaled sum holds the block's weighted values as well. -/
theorem held_block {n : ℕ} {M A T : EReal} (h : Held M A T) (s v : Fin n → EReal) (hs : ∀ i, Score (s i)) (j : Fin n) (hj : s j ≠ ⊥) :
    ∃ c : ℝ, max M (Finset.univ.fold max ⊥ s) = c
      ∧ Ideal.exp (M - max M (Finset.univ.fold max ⊥ s)) * A + ∑ i, Ideal.exp (s i - max M (Finset.univ.fold max ⊥ s)) * v i
        = (Real.exp (-c) : EReal) * (T + ∑ i, (wt (s i) : EReal) * v i) := by
  obtain ⟨c, hc⟩ := max_real Finset.univ M h.score s (fun i _ => hs i) j (Finset.mem_univ j) hj
  refine ⟨c, hc, ?_⟩
  have hpos : (0 : EReal) ≤ (Real.exp (-c) : EReal) := by exact_mod_cast (Real.exp_pos _).le
  rw [hc, EReal.left_distrib_of_nonneg_of_ne_top hpos (EReal.coe_ne_top _)]
  congr 1
  · rcases h with ⟨h1, h2, h3⟩ | ⟨d, h1, h2⟩
    · rw [h2, h3, mul_zero, mul_zero]
    · rw [h1, h2, ← mul_assoc, exp_sub (Or.inr ⟨d, rfl⟩), wt_coe, ← EReal.coe_mul]
      congr 2
      rw [mul_assoc, ← Real.exp_add, add_neg_cancel, Real.exp_zero, mul_one]
  · rw [coe_mul_sum _ _ (Real.exp_pos _).le]
    refine Finset.sum_congr rfl fun i _ => ?_
    rw [exp_sub (hs i), ← mul_assoc, ← EReal.coe_mul]

/-- The softmax-weighted sum of the first `n` values, the scores unshifted. -/
def soft (n : ℕ) (s v : ℕ → EReal) : EReal :=
  (((∑ j ∈ Finset.range n, wt (s j))⁻¹ : ℝ) : EReal) * ∑ j ∈ Finset.range n, (wt (s j) : EReal) * v j

theorem total_pos {n : ℕ} {s : ℕ → EReal} (hs : ∀ j, Score (s j)) {j : ℕ} (hj : j < n) (hr : s j ≠ ⊥) :
    0 < ∑ j ∈ Finset.range n, wt (s j) := by
  refine Finset.sum_pos' (fun i _ => wt_nonneg (hs i)) ⟨j, Finset.mem_range.mpr hj, ?_⟩
  rcases hs j with h | ⟨r, h⟩
  · exact absurd h hr
  · rw [h, wt_coe]; exact Real.exp_pos r

theorem div_coe (x : EReal) (y : ℝ) (hy : y ≠ 0) : Ideal.div x y = x * ((y⁻¹ : ℝ) : EReal) := by
  have h : (y : EReal) ≠ 0 := by exact_mod_cast hy
  rw [Ideal.div, if_neg h, EReal.coe_inv]

/-- Dividing the shifted weighted sum by the shifted total gives the softmax-weighted sum, whatever the shift. -/
theorem soft_of_held {n : ℕ} {s v : ℕ → EReal} (hs : ∀ j, Score (s j)) {j : ℕ} (hj : j < n) (hr : s j ≠ ⊥) (c : ℝ) (A L : EReal)
    (hA : A = (Real.exp (-c) : EReal) * ∑ j ∈ Finset.range n, (wt (s j) : EReal) * v j)
    (hL : L = (Real.exp (-c) : EReal) * ∑ j ∈ Finset.range n, (wt (s j) : EReal) * 1) :
    A * Ideal.div 1 L = soft n s v := by
  have hp := total_pos hs hj hr
  have hL' : L = ((Real.exp (-c) * ∑ j ∈ Finset.range n, wt (s j) : ℝ) : EReal) := by
    rw [hL, EReal.coe_mul, coe_sum]; simp only [mul_one]
  rw [hL', div_coe _ _ (mul_pos (Real.exp_pos _) hp).ne', one_mul, hA, soft, mul_comm, ← mul_assoc, ← EReal.coe_mul]
  congr 2
  rw [mul_inv, mul_comm, ← mul_assoc, mul_inv_cancel₀ (Real.exp_pos _).ne', one_mul]

/-- The total of the shifted weights. -/
theorem total_shifted {n : ℕ} {s : ℕ → EReal} (hs : ∀ j, Score (s j)) (c : ℝ) :
    ∑ i ∈ Finset.range n, Ideal.exp (s i - c) = ((Real.exp (-c) * ∑ j ∈ Finset.range n, wt (s j) : ℝ) : EReal) := by
  rw [Finset.mul_sum, coe_sum]
  exact Finset.sum_congr rfl fun i _ => exp_sub (hs i) c

/-- A masked position's normalised weight is zero. -/
theorem normalised_masked {n : ℕ} {s : ℕ → EReal} (hs : ∀ j, Score (s j)) {j : ℕ} (hj : j < n) (hr : s j ≠ ⊥) (c : ℝ) {i : ℕ} (hi : s i = ⊥) :
    Ideal.div (Ideal.exp (s i - c)) (∑ i ∈ Finset.range n, Ideal.exp (s i - c)) = 0 := by
  rw [total_shifted hs, div_coe _ _ (mul_pos (Real.exp_pos _) (total_pos hs hj hr)).ne', exp_sub (hs i), hi, wt_bot, mul_zero, EReal.coe_zero, zero_mul]

/-- The sum of normalised weights times values is the softmax-weighted sum, whatever the shift. -/
theorem soft_of_normalised {n : ℕ} {s v : ℕ → EReal} (hs : ∀ j, Score (s j)) {j : ℕ} (hj : j < n) (hr : s j ≠ ⊥) (c : ℝ) :
    ∑ j ∈ Finset.range n, Ideal.div (Ideal.exp (s j - c)) (∑ i ∈ Finset.range n, Ideal.exp (s i - c)) * v j = soft n s v := by
  have hp := total_pos hs hj hr
  rw [total_shifted hs, soft, coe_mul_sum _ _ (inv_nonneg.mpr hp.le)]
  refine Finset.sum_congr rfl fun i _ => ?_
  rw [div_coe _ _ (mul_pos (Real.exp_pos _) hp).ne', exp_sub (hs i), ← mul_assoc, ← EReal.coe_mul, ← EReal.coe_mul]
  congr 2
  have := (Real.exp_pos (-c)).ne'
  have := hp.ne'
  field_simp

/-- Masked scores past `n` add nothing. -/
theorem sum_masked {n N : ℕ} (h : n ≤ N) (s v : ℕ → EReal) (hm : ∀ j, n ≤ j → s j = ⊥) :
    ∑ j ∈ Finset.range N, (wt (s j) : EReal) * v j = ∑ j ∈ Finset.range n, (wt (s j) : EReal) * v j := by
  refine (Finset.sum_subset (Finset.range_mono h) fun j _ hj => ?_).symm
  rw [hm j (not_lt.mp fun h => hj (Finset.mem_range.mpr h)), wt_bot, EReal.coe_zero, zero_mul]

/-- A finite sum of products of reals is real. -/
theorem dot_real {n : ℕ} (x y : Fin n → EReal) (hx : ∀ i, ∃ r : ℝ, x i = r) (hy : ∀ i, ∃ r : ℝ, y i = r) : ∃ r : ℝ, ∑ i, x i * y i = r := by
  choose a ha using hx
  choose b hb using hy
  refine ⟨∑ i, a i * b i, ?_⟩
  rw [coe_sum]
  exact Finset.sum_congr rfl fun i _ => by rw [ha, hb, EReal.coe_mul]

end Cert.Soft

end
-- ==== Proof.Rows.lean ====
/- One row of one head: what the body's block holds is the masked softmax of the row's scores. -/
module

public import proofs.«01_k».proof.Proof.Values
public import proofs.«01_k».proof.Proof.Soft

@[expose] public section

set_option maxRecDepth 16384

noncomputable section

namespace Cert.KernelIdeal.Att

open Idealize.ShloMosaic Cert.KernelIdeal.Gen Cert.Soft

/-- Lane `l` of head `h` among the 512. -/
abbrev lane (h : Fin 4) (l : Fin 128) : Fin 512 := ⟨128 * h.val + l.val, by omega⟩
/-- Position `j`, brought into range. -/
abbrev pos (j : ℕ) : Fin 8192 := ⟨j % 8192, Nat.mod_lt _ (by decide)⟩

/-- The scores of the query at position `n` (its vector `q`) against the keys: masked after `n`. -/
def rowScore (q : Fin 128 → EReal) (k : ℕ → Fin 128 → EReal) (n : ℕ) (j : ℕ) : EReal := if j ≤ n then ∑ l, q l * k j l else ⊥

/-- The scores of row `r` of the query block, head `h`. -/
abbrev blockScore (i : grid0.Coords) (x0 : Vec Ideal S1x256x512 .bf16) (x1 : Vec Ideal S1x8192x512 .bf16) (h : Fin 4) (r : Fin 256) : ℕ → EReal :=
  rowScore (fun l => x0 (ix3 0 r (lane h l))) (fun j l => x1 (ix3 0 (pos j) (lane h l))) (256 * (i 1).val + r.val)

/-- Lane `d` of head `h` of the values, by position. -/
abbrev blockValue (x2 : Vec Ideal S1x8192x512 .bf16) (h : Fin 4) (d : Fin 128) : ℕ → EReal := fun j => x2 (ix3 0 (pos j) (lane h d))

theorem updM_at (s : Fin 4 → FVec Ideal S256x1024 .f32) (M : Vec Ideal S4x256x1 .f32) (h : Fin 4) (r : Fin 256) :
    updM s M (ix3 h r 0) = max (M (ix3 h r 0)) (Finset.univ.fold max ⊥ fun x : Fin 1024 => s h (ix2 r x)) := by
  show k0_pay12 (s h) (slabM M h) (ValueIdx.ix3 0 r 0) = _
  rw [← ix3_eq_valueIdx, pay12_at, pay10_at]
  show max (M (ValueIdx.ix3 h r 0)) _ = _
  rw [← ix3_eq_valueIdx]

theorem updA_at (s : Fin 4 → FVec Ideal S256x1024 .f32) (v : Fin 4 → Vec Ideal S1x1024x128 .bf16) (M : Vec Ideal S4x256x1 .f32)
    (A : Vec Ideal S4x256x128 .f32) (h : Fin 4) (r : Fin 256) (d : Fin 128) :
    updA s v M A (ix3 h r d) = k0_pay11 (s h) (slabM M h) (slabA A h) (v h) (ix3 0 r d) := by
  show k0_pay11 (s h) (slabM M h) (slabA A h) (v h) (ValueIdx.ix3 0 r d) = _
  rw [← ix3_eq_valueIdx]

theorem sums_at (s : FVec Ideal S256x1024 .f32) (M : Vec Ideal S4x256x1 .f32)
    (A : Vec Ideal S4x256x128 .f32) (v : Vec Ideal S1x1024x128 .bf16) (h : Fin 4) (r : Fin 256) (d : Fin 128) :
    k0_pay11 s (slabM M h) (slabA A h) v (ix3 0 r d)
      = Ideal.exp (M (ix3 h r 0) - max (M (ix3 h r 0)) (Finset.univ.fold max ⊥ fun x : Fin 1024 => s (ix2 r x))) * A (ix3 h r d)
        + ∑ x : Fin 1024, Ideal.exp (s (ix2 r x) - max (M (ix3 h r 0)) (Finset.univ.fold max ⊥ fun x : Fin 1024 => s (ix2 r x))) * v (ix3 0 x d) := by
  have e : slabM M h (ix3 0 r 0) = M (ix3 h r 0) := by
    show M (ValueIdx.ix3 h r 0) = _
    rw [← ix3_eq_valueIdx]
  have e' : slabA A h (ix3 0 r d) = A (ix3 h r d) := by
    show A (ValueIdx.ix3 h r d) = _
    rw [← ix3_eq_valueIdx]
  rw [pay11_at, pay10_at, e, e']

theorem qHead_at (x0 : Vec Ideal S1x256x512 .bf16) (h : Fin 4) (r : Fin 256) (l : Fin 128) : qHead x0 h (ix2 r l) = x0 (ix3 0 r (lane h l)) := by
  show x0 (ValueIdx.ix3 0 r _) = _
  rw [← ix3_eq_valueIdx]; rfl

theorem kvHead_at (x1 : Vec Ideal S1x8192x512 .bf16) (k : ℕ) (h : Fin 4) (x : Fin 1024) (l : Fin 128) :
    kvHead x1 k h (ix3 0 x l) = x1 (ix3 0 (pos (1024 * k + x.val)) (lane h l)) := by
  show x1 (ValueIdx.ix3 0 _ _) = _
  rw [← ix3_eq_valueIdx]; rfl

theorem score_at (x0 : Vec Ideal S1x256x512 .bf16) (x1 : Vec Ideal S1x8192x512 .bf16) (k : ℕ) (h : Fin 4) (r : Fin 256) (x : Fin 1024) :
    score (qHead x0) (kvHead x1 k) h (ix2 r x)
      = ∑ l, x0 (ix3 0 r (lane h l)) * x1 (ix3 0 (pos (1024 * k + x.val)) (lane h l)) := by
  unfold score
  rw [pay3_at]
  exact Finset.sum_congr rfl fun l _ => by rw [qHead_at, kvHead_at]

/-- The weighted sum over one more block of keys. -/
theorem sum_block (f : ℕ → EReal) (k : ℕ) :
    ∑ j ∈ Finset.range (1024 * k), f j + ∑ x : Fin 1024, f (1024 * k + x.val) = ∑ j ∈ Finset.range (1024 * (k + 1)), f j := by
  rw [Nat.mul_succ, Finset.sum_range_add, Finset.sum_range (fun x => f (1024 * k + x))]

section Row
variable (i : grid0.Coords) (x0 : Vec Ideal S1x256x512 .bf16) (x1 x2 : Vec Ideal S1x8192x512 .bf16) (h : Fin 4) (r : Fin 256)
variable (fin0 : ∀ y, ∃ a : ℝ, x0 y = a) (fin1 : ∀ y, ∃ a : ℝ, x1 y = a)
include fin0 fin1

theorem dots_real (j : ℕ) : ∃ a : ℝ, ∑ l, x0 (ix3 0 r (lane h l)) * x1 (ix3 0 (pos j) (lane h l)) = a :=
  dot_real _ _ (fun l => fin0 _) (fun l => fin1 _)

theorem blockScore_score (j : ℕ) : Score (blockScore i x0 x1 h r j) := by
  unfold blockScore rowScore
  split
  · exact Or.inr (dots_real x0 x1 h r fin0 fin1 j)
  · exact Or.inl rfl

theorem blockScore_ne (j : ℕ) (hj : j ≤ 256 * (i 1).val + r.val) : blockScore i x0 x1 h r j ≠ ⊥ := by
  unfold blockScore rowScore
  rw [if_pos hj]
  obtain ⟨a, ha⟩ := dots_real x0 x1 h r fin0 fin1 j
  rw [ha]; exact EReal.coe_ne_bot a

/-- After `k` whole blocks the buffers hold the running maximum and the weighted sums of the row's first `1024 * k` keys. -/
theorem held_run (d : Fin 128) : ∀ k, k ≤ (i 1).val / 4 →
    Held ((runMA (qHead x0) x1 x2 (k0_pay48 (F := Ideal) (k0_pay47 (F := Ideal))) (k0_pay49 (F := Ideal)) k).1 (ix3 h r 0)) ((runMA (qHead x0) x1 x2 (k0_pay48 (F := Ideal) (k0_pay47 (F := Ideal))) (k0_pay49 (F := Ideal)) k).2 (ix3 h r d))
      (∑ j ∈ Finset.range (1024 * k), (wt (blockScore i x0 x1 h r j) : EReal) * blockValue x2 h d j)
  | 0, _ => Or.inl ⟨start_max (ix3 h r 0), start_sum (ix3 h r d), by simp⟩
  | k + 1, hk => by
    have ih := held_run d k (by omega)
    have es : ∀ x : Fin 1024, score (qHead x0) (kvHead x1 k) h (ix2 r x) = blockScore i x0 x1 h r (1024 * k + x.val) := fun x => by
      rw [score_at, blockScore, rowScore, if_pos (by omega)]
    obtain ⟨c, h1, h2⟩ := held_block ih (fun x : Fin 1024 => blockScore i x0 x1 h r (1024 * k + x.val)) (fun x => blockValue x2 h d (1024 * k + x.val))
      (fun x => blockScore_score i x0 x1 h r fin0 fin1 _) 0 (blockScore_ne i x0 x1 h r fin0 fin1 _ (by simp; omega))
    refine Or.inr ⟨c, ?_, ?_⟩
    · show updM _ _ (ix3 h r 0) = _
      rw [updM_at]
      simp only [es]
      exact h1
    · show updA _ _ _ _ (ix3 h r d) = _
      rw [updA_at, sums_at]
      simp only [es, kvHead_at]
      refine h2.trans ?_
      rw [← sum_block]

/-- After the last block: one shift, and the weighted sums of all the row's keys in every lane. -/
theorem head_sums : ∃ c : ℝ, ∀ d : Fin 128, headOut i x0 x1 x2 h (ix3 0 r d)
    = (Real.exp (-c) : EReal) * ∑ j ∈ Finset.range 8192, (wt (blockScore i x0 x1 h r j) : EReal) * blockValue x2 h d j := by
  have hi : (i 1).val < 32 := (i 1).isLt
  have es : ∀ x : Fin 1024, lastScore (F := Ideal) i x0 x1 h (ix2 r x) = blockScore i x0 x1 h r (1024 * ((i 1).val / 4) + x.val) := fun x => by
    rw [lastScore_at, score_at]; rfl
  have step := fun d : Fin 128 => held_block (held_run i x0 x1 x2 h r fin0 fin1 d ((i 1).val / 4) le_rfl)
    (fun x : Fin 1024 => blockScore i x0 x1 h r (1024 * ((i 1).val / 4) + x.val)) (fun x => blockValue x2 h d (1024 * ((i 1).val / 4) + x.val))
      (fun x => blockScore_score i x0 x1 h r fin0 fin1 _) 0 (blockScore_ne i x0 x1 h r fin0 fin1 _ (by simp; omega))
  obtain ⟨c, hc, _⟩ := step 0
  refine ⟨c, fun d => ?_⟩
  obtain ⟨c', h1, h2⟩ := step d
  have : c' = c := EReal.coe_injective (h1.symm.trans hc)
  subst this
  unfold headOut atEnd
  rw [sums_at]
  simp only [es, kvHead_at]
  refine h2.trans ?_
  rw [sum_block (fun j => (wt (blockScore i x0 x1 h r j) : EReal) * blockValue x2 h d j)]
  rw [sum_masked (n := 1024 * ((i 1).val / 4 + 1)) (N := 8192) (by omega)]
  intro j hj
  unfold blockScore rowScore
  rw [if_neg (by omega)]

/-- The stored block: head `h`'s lane `d` of row `r` is the softmax-weighted sum of that lane of the values. -/
theorem outBlk_at (ones : ∀ j, blockValue x2 h 64 j = 1) (d : Fin 64) :
    outBlk i x0 x1 x2 (ix3 0 r ⟨64 * h.val + d.val, by omega⟩)
      = soft 8192 (blockScore i x0 x1 h r) (blockValue x2 h ⟨d.val, by omega⟩) := by
  have hi : (i 1).val < 32 := (i 1).isLt
  obtain ⟨c, hc⟩ := head_sums i x0 x1 x2 h r fin0 fin1
  unfold outBlk
  rw [pay1_at (fun h => headOut i x0 x1 x2 h)]
  unfold normal
  refine soft_of_held (blockScore_score i x0 x1 h r fin0 fin1) (j := 256 * (i 1).val + r.val) (by omega)
    (blockScore_ne i x0 x1 h r fin0 fin1 _ le_rfl) c _ _ (hc _) ?_
  refine (hc 64).trans ?_
  simp only [ones]

end Row

end Cert.KernelIdeal.Att

end
-- ==== Proof.Array.lean ====
/- The array the launch leaves: every element is the masked softmax attention of its row. -/
module

public import proofs.«01_k».proof.Proof.Run
public import proofs.«01_k».proof.Proof.Rows

@[expose] public section

set_option maxRecDepth 16384

noncomputable section

namespace Cert.KernelIdeal.Att

open Idealize.ShloMosaic Idealize.ShloMosaic.TcCoe Cert.KernelIdeal.Gen Cert.Soft

/-- Causal attention of batch `b`, position `n`, head `h`, lane `d`, from the packed queries, keys and values. -/
def att (q k v : Vec Ideal S4x8192x512 .bf16) (b : Fin 4) (n : Fin 8192) (h : Fin 4) (d : Fin 64) : EReal :=
  soft 8192 (rowScore (fun l => q (ix3 b n (lane h l))) (fun j l => k (ix3 b (pos j) (lane h l))) n.val) (fun j => v (ix3 b (pos j) (lane h ⟨d.val, by omega⟩)))

/-- The result array: head `c / 64`, lane `c % 64` in column `c`. -/
def attArray (q k v : Vec Ideal S4x8192x512 .bf16) : Vec Ideal S4x8192x256 .f32 := fun a =>
  att q k v (a 0) (a 1) ⟨(a 2).val / 64, by have : (a 2).val < 256 := (a 2).isLt; omega⟩ ⟨(a 2).val % 64, Nat.mod_lt _ (by decide)⟩

theorem index0 : ∀ t : Fin cfg0.N, win0_0.index t 0 = (grid0.coords t 0).val ∧ win0_0.index t 1 = (grid0.coords t 1).val ∧ win0_0.index t 2 = 0 := by decide +kernel
theorem index1 : ∀ t : Fin cfg0.N, win0_1.index t 0 = (grid0.coords t 0).val ∧ win0_1.index t 1 = 0 ∧ win0_1.index t 2 = 0 := by decide +kernel
theorem index2 : ∀ t : Fin cfg0.N, win0_2.index t 0 = (grid0.coords t 0).val ∧ win0_2.index t 1 = 0 ∧ win0_2.index t 2 = 0 := by decide +kernel
theorem index3 : ∀ t : Fin cfg0.N, win0_3.index t 0 = (grid0.coords t 0).val ∧ win0_3.index t 1 = (grid0.coords t 1).val ∧ win0_3.index t 2 = 0 := by decide +kernel

/-- The batch and the position of row `r` of grid point `i`. -/
abbrev batchOf (i : grid0.Coords) : Fin 4 := ⟨(i 0).val, (i 0).isLt⟩
abbrev posOf (i : grid0.Coords) (r : Fin 256) : Fin 8192 := ⟨256 * (i 1).val + r.val, by have : (i 1).val < 32 := (i 1).isLt; omega⟩

variable (m : (ℓ : Loc nD τ sig) → Buf (Elt Ideal) ℓ) (c : Dev nD)

abbrev Q0 : Vec Ideal S4x8192x512 .bf16 := m ((c : Thread nD τ).loc main_arg0)
abbrev K0 : Vec Ideal S4x8192x512 .bf16 := m ((c : Thread nD τ).loc main_arg1)
abbrev V0 : Vec Ideal S4x8192x512 .bf16 := m ((c : Thread nD τ).loc main_arg2)

theorem iblk0_at (t : Fin cfg0.N) (r : Fin 256) (l : Fin 512) :
    (iblk m c 0 t : Vec Ideal S1x256x512 .bf16) (ix3 0 r l) = Q0 m c (ix3 (batchOf (grid0.coords t)) (posOf (grid0.coords t) r) l) := by
  obtain ⟨e0, e1, e2⟩ := index0 t
  show V m c main_arg0 (((cfg0.win 0).blk t).view.emb (ix3 0 r l)) = _
  rw [V_main_arg0]
  refine congrArg (m _) (funext fun a => Fin.ext ?_)
  fin_cases a
  · refine (Pipeline.Window.rect_emb_val win0_0 t _ 0).trans ?_
    show win0_0.index t 0 * 1 + 0 = (grid0.coords t 0).val
    omega
  · refine (Pipeline.Window.rect_emb_val win0_0 t _ 1).trans ?_
    show win0_0.index t 1 * 256 + r.val = 256 * (grid0.coords t 1).val + r.val
    omega
  · refine (Pipeline.Window.rect_emb_val win0_0 t _ 2).trans ?_
    show win0_0.index t 2 * 512 + l.val = l.val
    omega

theorem iblk1_at (t : Fin cfg0.N) (j : Fin 8192) (l : Fin 512) :
    (iblk m c 1 t : Vec Ideal S1x8192x512 .bf16) (ix3 0 j l) = K0 m c (ix3 (batchOf (grid0.coords t)) j l) := by
  obtain ⟨e0, e1, e2⟩ := index1 t
  show V m c main_arg1 (((cfg0.win 1).blk t).view.emb (ix3 0 j l)) = _
  rw [V_main_arg1]
  refine congrArg (m _) (funext fun a => Fin.ext ?_)
  fin_cases a
  · refine (Pipeline.Window.rect_emb_val win0_1 t _ 0).trans ?_
    show win0_1.index t 0 * 1 + 0 = (grid0.coords t 0).val
    omega
  · refine (Pipeline.Window.rect_emb_val win0_1 t _ 1).trans ?_
    show win0_1.index t 1 * 8192 + j.val = j.val
    omega
  · refine (Pipeline.Window.rect_emb_val win0_1 t _ 2).trans ?_
    show win0_1.index t 2 * 512 + l.val = l.val
    omega

theorem iblk2_at (t : Fin cfg0.N) (j : Fin 8192) (l : Fin 512) :
    (iblk m c 2 t : Vec Ideal S1x8192x512 .bf16) (ix3 0 j l) = V0 m c (ix3 (batchOf (grid0.coords t)) j l) := by
  obtain ⟨e0, e1, e2⟩ := index2 t
  show V m c main_arg2 (((cfg0.win 2).blk t).view.emb (ix3 0 j l)) = _
  rw [V_main_arg2]
  refine congrArg (m _) (funext fun a => Fin.ext ?_)
  fin_cases a
  · refine (Pipeline.Window.rect_emb_val win0_2 t _ 0).trans ?_
    show win0_2.index t 0 * 1 + 0 = (grid0.coords t 0).val
    omega
  · refine (Pipeline.Window.rect_emb_val win0_2 t _ 1).trans ?_
    show win0_2.index t 1 * 8192 + j.val = j.val
    omega
  · refine (Pipeline.Window.rect_emb_val win0_2 t _ 2).trans ?_
    show win0_2.index t 2 * 512 + l.val = l.val
    omega

variable (finQ : ∀ y, ∃ a : ℝ, Q0 m c y = a) (finK : ∀ y, ∃ a : ℝ, K0 m c y = a) (ones : ∀ b j (h : Fin 4), V0 m c (ix3 b j (lane h 64)) = 1)
include finQ finK ones

/-- What grid point `t` stores at row `r`, column `col`. -/
theorem stored_at (t : Fin cfg0.N) (r : Fin 256) (col : Fin 256) :
    stored m c t (ix3 0 r col) = attArray (Q0 m c) (K0 m c) (V0 m c) (ix3 (batchOf (grid0.coords t)) (posOf (grid0.coords t) r) col) := by
  have f0 : ∀ y, ∃ a : ℝ, (iblk m c 0 t : Vec Ideal S1x256x512 .bf16) y = (a : EReal) := fun y => by
    obtain ⟨a, ha⟩ := finQ (ix3 (batchOf (grid0.coords t)) (posOf (grid0.coords t) (y 1)) (y 2))
    refine ⟨a, Eq.trans ?_ ((iblk0_at m c t _ _).trans ha)⟩
    exact congrArg (iblk m c 0 t) (funext fun b => by
      fin_cases b
      · exact Fin.ext (by have : (y 0).val < 1 := (y 0).isLt; show (y 0).val = 0; omega)
      · rfl
      · rfl)
  have f1 : ∀ y, ∃ a : ℝ, (iblk m c 1 t : Vec Ideal S1x8192x512 .bf16) y = (a : EReal) := fun y => by
    obtain ⟨a, ha⟩ := finK (ix3 (batchOf (grid0.coords t)) (y 1) (y 2))
    refine ⟨a, Eq.trans ?_ ((iblk1_at m c t _ _).trans ha)⟩
    exact congrArg (iblk m c 1 t) (funext fun b => by
      fin_cases b
      · exact Fin.ext (by have : (y 0).val < 1 := (y 0).isLt; show (y 0).val = 0; omega)
      · rfl
      · rfl)
  have hc := outBlk_at (grid0.coords t) (iblk m c 0 t) (iblk m c 1 t) (iblk m c 2 t) ⟨col.val / 64, by omega⟩ r f0 f1
    (fun j => by rw [blockValue, iblk2_at]; exact ones _ _ _) ⟨col.val % 64, Nat.mod_lt _ (by decide)⟩
  have ecol : (⟨64 * (col.val / 64) + col.val % 64, by omega⟩ : Fin 256) = col := Fin.ext (Nat.div_add_mod _ _)
  rw [ecol] at hc
  refine hc.trans ?_
  unfold attArray att blockScore blockValue
  simp only [iblk0_at, iblk1_at, iblk2_at]
  rfl

/-- The result array after the launch. -/
theorem array_eq : (dat m 0 c).arrAt 3 cfg0.N = attArray (Q0 m c) (K0 m c) (V0 m c) := by
  refine (dat m 0 c).arrAt_eq_of_covers 3 _ (by decide +kernel) fun t hf y => ?_
  obtain ⟨e0, e1, e2⟩ := index3 t
  blk_simp
  rw [left3]
  have y0 : (y 0).val < 1 := (y 0).isLt
  have ey : (ix3 0 (y 1) (y 2) : S1x256x256.Idx) = y := funext fun b => by
    fin_cases b
    · exact Fin.ext (by show 0 = (y 0).val; omega)
    · rfl
    · rfl
  refine (congrArg (stored m c t) ey.symm).trans ((stored_at m c finQ finK ones t (y 1) (y 2)).trans (congrArg _ (funext fun a => Fin.ext ?_)))
  fin_cases a
  · refine Eq.trans ?_ (Pipeline.Window.rect_emb_val win0_3 t y 0).symm
    show (grid0.coords t 0).val = win0_3.index t 0 * 1 + (y 0).val
    omega
  · refine Eq.trans ?_ (Pipeline.Window.rect_emb_val win0_3 t y 1).symm
    show 256 * (grid0.coords t 1).val + (y 1).val = win0_3.index t 1 * 256 + (y 1).val
    omega
  · refine Eq.trans ?_ (Pipeline.Window.rect_emb_val win0_3 t y 2).symm
    show (y 2).val = win0_3.index t 2 * 256 + (y 2).val
    omega

end Cert.KernelIdeal.Att

end
-- ==== Proof.Reference.lean ====
/- The reference's result read at an index: the same masked softmax attention. -/
module

public import proofs.«01_k».proof.Proof.Gen.ReferenceIdeal.Read
public import proofs.«01_k».proof.Proof.Array

@[expose] public section

set_option maxRecDepth 16384

noncomputable section

namespace Cert.ReferenceIdeal.Att

open Idealize.ShloMosaic Cert.ReferenceIdeal Cert.ReferenceIdeal.Gen Cert.ReferenceIdeal.Read Cert.Soft
open Cert.KernelIdeal.Att (lane pos rowScore att attArray ninf sle_small)

/-- A packed array regrouped by head and transposed. -/
theorem head_index (i : S4x4x8192x128.Idx) : idx_main_v1 (idx_main_v2 i) = ix3 (i 0) (i 2) (lane (i 1) (i 3)) := by
  have h0 : (i 0).val < 4 := (i 0).isLt
  have h1 : (i 1).val < 4 := (i 1).isLt
  have h2 : (i 2).val < 8192 := (i 2).isLt
  have h3 : (i 3).val < 128 := (i 3).isLt
  refine funext fun a => Fin.ext ?_
  fin_cases a
  · show ((((i 0).val * 8192 + (i 2).val) * 4 + (i 1).val) * 128 + (i 3).val) / 4194304 = (i 0).val
    omega
  · show ((((i 0).val * 8192 + (i 2).val) * 4 + (i 1).val) * 128 + (i 3).val) / 512 % 8192 = (i 2).val
    omega
  · show ((((i 0).val * 8192 + (i 2).val) * 4 + (i 1).val) * 128 + (i 3).val) % 512 = 128 * (i 1).val + (i 3).val
    omega

variable (q k v : Vec Ideal S4x8192x512 .bf16)

theorem q_at (i : S4x4x8192x128.Idx) : val_main_v2 (F := Ideal) q i = q (ix3 (i 0) (i 2) (lane (i 1) (i 3))) := by
  rw [val_main_v2_apply, val_main_v1_apply, val_main_v0_apply]
  exact congrArg q (head_index i)

theorem k_at (i : S4x4x8192x128.Idx) : val_main_v5 (F := Ideal) k i = k (ix3 (i 0) (i 2) (lane (i 1) (i 3))) := by
  rw [val_main_v5_apply, val_main_v4_apply, val_main_v3_apply]
  exact congrArg k (head_index i)

theorem v_at (i : S4x4x8192x64.Idx) : val_main_v9 (F := Ideal) v i = v (ix3 (i 0) (i 2) (lane (i 1) ⟨(i 3).val, by have : (i 3).val < 64 := (i 3).isLt; omega⟩)) := by
  rw [val_main_v9_apply, val_main_v8_apply, val_main_v7_apply, val_main_v6_apply]
  refine congrArg v (funext fun a => Fin.ext ?_)
  have h0 : (i 0).val < 4 := (i 0).isLt
  have h1 : (i 1).val < 4 := (i 1).isLt
  have h2 : (i 2).val < 8192 := (i 2).isLt
  have h3 : (i 3).val < 64 := (i 3).isLt
  fin_cases a
  · show ((((i 0).val * 8192 + (i 2).val) * 4 + (i 1).val) * 128 + (i 3).val) / 4194304 = (i 0).val
    omega
  · show ((((i 0).val * 8192 + (i 2).val) * 4 + (i 1).val) * 128 + (i 3).val) / 512 % 8192 = (i 2).val
    omega
  · show ((((i 0).val * 8192 + (i 2).val) * 4 + (i 1).val) * 128 + (i 3).val) % 512 = 128 * (i 1).val + (i 3).val
    omega

/-- The mask: the key's position is not after the query's. -/
theorem mask_at (i : S8192x8192.Idx) : val_main_v16 (F := Ideal) i = BitVec.ofBool (decide ((i 1).val ≤ (i 0).val)) := by
  have h0 : (i 0).val < 8192 := (i 0).isLt
  have h1 : (i 1).val < 8192 := (i 1).isLt
  rw [val_main_v16_apply, val_main_v14_apply, val_main_v15_apply, val_main_v12_apply, val_main_v13_apply, val_main_v10_apply, val_main_v10_apply]
  exact congrArg BitVec.ofBool (sle_small (by show (i 1).val < _; omega) (by show (i 0).val < _; omega))

/-- The scores of batch `b`, head `h`, query `n`, by key. -/
abbrev scores (b : Fin 4) (h : Fin 4) (n : Fin 8192) : ℕ → EReal :=
  rowScore (fun l => q (ix3 b n (lane h l))) (fun j l => k (ix3 b (pos j) (lane h l))) n.val

theorem pos_val (j : Fin 8192) : pos j.val = j := Fin.ext (Nat.mod_eq_of_lt j.isLt)

theorem select_ofBool {α : Type} (p : Prop) [Decidable p] (x y : α) : Scalar.select (BitVec.ofBool (decide p)) x y = if p then x else y := by
  by_cases h : p <;> simp [Scalar.select, h]

theorem masked_at (i : S4x4x8192x8192.Idx) : val_main_v17 (F := Ideal) q k i = scores q k (i 0) (i 1) (i 2) (i 3).val := by
  rw [val_main_v17_apply, val_main_call0_v1_apply, mask_at, select_ofBool]
  unfold scores rowScore
  refine if_congr Iff.rfl ?_ ?_
  · rw [val_main_v11_apply]
    refine Finset.sum_congr rfl fun l _ => ?_
    rw [q_at, k_at]
    refine congrArg₂ (· * ·) rfl (congrArg k ?_)
    rw [show pos (i 3).val = i 3 from pos_val (i 3)]
    rfl
  · rw [val_main_call0_v2_apply]
    exact ninf

variable (finQ : ∀ y, ∃ a : ℝ, q y = a) (finK : ∀ y, ∃ a : ℝ, k y = a)
include finQ finK

theorem dots (b h : Fin 4) (n : Fin 8192) (j : ℕ) : ∃ a : ℝ, ∑ l, q (ix3 b n (lane h l)) * k (ix3 b (pos j) (lane h l)) = a :=
  dot_real _ _ (fun l => finQ _) fun l => finK _

theorem scores_score (b h : Fin 4) (n : Fin 8192) (j : ℕ) : Score (scores q k b h n j) := by
  unfold scores rowScore
  split
  · exact Or.inr (dots q k finQ finK b h n j)
  · exact Or.inl rfl

theorem scores_ne (b h : Fin 4) (n : Fin 8192) : scores q k b h n n.val ≠ ⊥ := by
  unfold scores rowScore
  rw [if_pos le_rfl]
  obtain ⟨a, ha⟩ := dots q k finQ finK b h n n.val
  rw [ha]; exact EReal.coe_ne_bot a

/-- A row's maximum is real. -/
theorem shift_real (i : S4x4x8192.Idx) : ∃ c : ℝ, val_main_v20 (F := Ideal) q k i = c := by
  obtain ⟨c, hc⟩ := max_real Finset.univ ⊥ (Or.inl rfl) (fun j : Fin 8192 => scores q k (i 0) (i 1) (i 2) j.val)
    (fun j _ => scores_score q k finQ finK _ _ _ _) (i 2) (Finset.mem_univ _) (scores_ne q k finQ finK (i 0) (i 1) (i 2))
  refine ⟨c, Eq.trans ?_ hc⟩
  rw [val_main_v20_apply, val_main_v19_apply, val_main_cst_1_apply]
  unfold val_main_v18
  rw [Host.reduce_eq_fold_single (FloatOps.maximumf (F := Ideal) (φ := .f32)) _ _ _ (by decide) _ i]
  refine congrArg₂ max ninf ?_
  refine (congrArg₂ (fun b f => Finset.fold max b f (Finset.univ : Finset (Fin 8192))) ninf (funext fun j => ?_))
  exact masked_at q k _

/-- The weight array: the normalised exponentials, zero where masked. -/
theorem weight_at (i : S4x4x8192x8192.Idx) (c : ℝ) (hc : val_main_v20 (F := Ideal) q k (idx_main_v21 (idx_main_v22 i)) = c) :
    val_main_v29 (F := Ideal) q k i = Ideal.div (Ideal.exp (scores q k (i 0) (i 1) (i 2) (i 3).val - c))
      (∑ j ∈ Finset.range 8192, Ideal.exp (scores q k (i 0) (i 1) (i 2) j - c)) := by
  have e24 : ∀ y : S4x4x8192x8192.Idx, idx_main_v21 (idx_main_v22 y) = idx_main_v21 (idx_main_v22 i) →
      val_main_v24 (F := Ideal) q k y = Ideal.exp (scores q k (y 0) (y 1) (y 2) (y 3).val - c) := fun y hy => by
    rw [val_main_v24_apply, val_main_v23_apply, val_main_v22_apply, val_main_v21_apply, hy, hc, masked_at]
    rfl
  have e28 : val_main_v28 (F := Ideal) q k i = Ideal.div (Ideal.exp (scores q k (i 0) (i 1) (i 2) (i 3).val - c))
      (∑ j ∈ Finset.range 8192, Ideal.exp (scores q k (i 0) (i 1) (i 2) j - c)) := by
    rw [val_main_v28_apply, e24 i rfl, val_main_v27_apply, val_main_v26_apply, val_main_v25_apply, val_main_cst_2_apply, Finset.sum_range]
    refine congrArg (Ideal.div _) ((congrArg₂ (· + ·) (Ideal.ofBits_zero_f32) (Finset.sum_congr rfl fun j _ => ?_)).trans (zero_add _))
    exact e24 _ rfl
  rw [val_main_v29_apply, val_main_call1_v1_apply, mask_at, select_ofBool, e28]
  split
  · rfl
  · next hm =>
    refine Eq.trans ?_ (normalised_masked (scores_score q k finQ finK (i 0) (i 1) (i 2)) (i 2).isLt (scores_ne q k finQ finK (i 0) (i 1) (i 2)) c (if_neg hm)).symm
    rw [val_main_call1_v2_apply]
    exact Ideal.ofBits_zero_f32

/-- The index of batch `b`, head `h`, position `n`, lane `d`. -/
def headIndex (b h : Fin 4) (n : Fin 8192) (d : Fin 64) : S4x4x8192x64.Idx := fun a => match a with
  | ⟨0, _⟩ => b
  | ⟨1, _⟩ => h
  | ⟨2, _⟩ => n
  | ⟨3, _⟩ => d

/-- Each head's weighted sum. -/
theorem sums_at (b h : Fin 4) (n : Fin 8192) (d : Fin 64) : val_main_v30 (F := Ideal) q k v (headIndex b h n d) = att q k v b n h d := by
  rw [val_main_v30_apply]
  obtain ⟨c, hc⟩ := shift_real q k finQ finK (idx_main_v21 (idx_main_v22 (lidx_main_v30 (headIndex b h n d) 0)))
  have es := soft_of_normalised (v := fun j => v (ix3 b (pos j) (lane h ⟨d.val, by omega⟩))) (scores_score q k finQ finK b h n) n.isLt (scores_ne q k finQ finK b h n) c
  rw [Finset.sum_range] at es
  refine Eq.trans (Finset.sum_congr rfl fun j _ => ?_) es
  refine congrArg₂ (· * ·) (weight_at q k finQ finK _ c hc) ((v_at v _).trans ?_)
  show v (ix3 b j _) = v (ix3 b (pos j.val) _)
  rw [pos_val]
  rfl

/-- The reference's array. -/
theorem reference_eq : val_main_v32 (F := Ideal) q k v = attArray q k v := funext fun i => by
  have h0 : (i 0).val < 4 := (i 0).isLt
  have h1 : (i 1).val < 8192 := (i 1).isLt
  have h2 : (i 2).val < 256 := (i 2).isLt
  rw [val_main_v32_apply, val_main_v31_apply]
  refine Eq.trans (congrArg _ (funext fun a => Fin.ext ?_)) (sums_at q k v finQ finK (i 0) ⟨(i 2).val / 64, by omega⟩ (i 1) ⟨(i 2).val % 64, Nat.mod_lt _ (by decide)⟩)
  fin_cases a
  · show (((i 0).val * 8192 + (i 1).val) * 256 + (i 2).val) / 2097152 = (i 0).val
    omega
  · show (((i 0).val * 8192 + (i 1).val) * 256 + (i 2).val) / 64 % 4 = (i 2).val / 64
    omega
  · show (((i 0).val * 8192 + (i 1).val) * 256 + (i 2).val) / 256 % 8192 = (i 1).val
    omega
  · show (((i 0).val * 8192 + (i 1).val) * 256 + (i 2).val) % 64 = (i 2).val % 64
    omega

end Cert.ReferenceIdeal.Att

end
-- ==== Proof.Pre.lean ====
/- The precondition read elementwise: finite queries and keys, and ones in lane 64 of each head's values. -/
module

public import proofs.«01_k».proof.Defs
public import Idealize.ShloMosaic.Lib.Pointwise
public import Idealize.ShloMosaic.Lib.IdealHost
public import proofs.«01_k».proof.Proof.Array

@[expose] public section

noncomputable section

namespace Cert.Pre_finite_with_ones

open Idealize.ShloMosaic
open Cert.KernelIdeal.Att (lane)

theorem facts : Facts where
  bcast_S_S4x8192x512 := by decide
  slicesBy_S4x8192x512_S4x8192x4_0s1_0s1_64s128 := by decide
  bcast_S_S4x8192x4 := by decide

instance : Facts := facts

theorem ofBool_one {p : Prop} [Decidable p] (h : BitVec.ofBool (decide p) = 1#1) : p := by
  by_contra hn
  rw [decide_eq_false hn] at h
  exact absurd h (by decide)

theorem top_bits : Ideal.ofBits .bf16 0x7F80#16 = ⊤ := by simp [Ideal.ofBits, Ideal.ieee]
theorem one_bits : Ideal.ofBits .bf16 0x3F80#16 = 1 := Ideal.ofBits_one_bf16

/-- An absolute value below `+∞` is a real's. -/
theorem real_of_abs (x : EReal) (h : Ideal.cmp .olt (max x (-x)) (Ideal.ofBits .bf16 0x7F80#16) = 1#1) : ∃ a : ℝ, x = a := by
  rw [top_bits] at h
  have h' : max x (-x) < ⊤ := ofBool_one h
  induction x with
  | bot => exact absurd h' (by simp)
  | coe a => exact ⟨a, rfl⟩
  | top => exact absurd h' (by simp)

variable (q k v : Vec Ideal S4x8192x512 .bf16)

theorem real_queries (h : (fn (F := Ideal) q k v).1 = fun _ => 1#1) (y : S4x8192x512.Idx) : ∃ a : ℝ, q y = a :=
  real_of_abs _ (congrFun h y)

theorem real_keys (h : (fn (F := Ideal) q k v).2.1 = fun _ => 1#1) (y : S4x8192x512.Idx) : ∃ a : ℝ, k y = a :=
  real_of_abs _ (congrFun h y)

theorem ones_at (hv : (fn (F := Ideal) q k v).2.2 = fun _ => 1#1) (b : Fin 4) (j : Fin 8192) (h : Fin 4) : v (ix3 b j (lane h 64)) = 1 := by
  have e : Ideal.cmp .oeq (v (ix3 b j ⟨64 + 128 * h.val, by omega⟩)) (Ideal.ofBits .bf16 0x3F80#16) = 1#1 := by
    have := congrFun hv (ix3 b j h)
    refine Eq.trans (congrArg (fun z => Ideal.cmp .oeq (v z) (Ideal.ofBits .bf16 0x3F80#16)) (funext fun a => Fin.ext ?_)) this
    fin_cases a
    · show b.val = 0 + 1 * b.val
      omega
    · show j.val = 0 + 1 * j.val
      omega
    · rfl
  rw [one_bits] at e
  have := ofBool_one (p := v (ix3 b j ⟨64 + 128 * h.val, by omega⟩) = 1) e
  rw [← this]
  refine congrArg (fun l => v (ix3 b j l)) (Fin.ext ?_)
  show 128 * h.val + 64 = 64 + 128 * h.val
  omega

end Cert.Pre_finite_with_ones

end
-- ==== Proof.Mix.lean ====
/- The output projection: the four mixers' parts against the four quarters of the weight, added to the residual. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

set_option maxRecDepth 16384

noncomputable section

namespace Cert.Mix

open Idealize.ShloMosaic Idealize.ShloMosaic.TcCoe
open Cert.Kernel3Ideal Cert.Kernel3Ideal.Gen

/-- Row `n` of a part against column `j` of the quarter of the weight that begins at row `a`. -/
def part (a : ℕ) (ha : a + 256 ≤ 1024) (o : Vec Ideal S32768x256 .f32) (w : Vec Ideal S1024x1024 .f32) (n : Fin 32768) (j : Fin 1024) : EReal :=
  ∑ k : Fin 256, o (ix2 n k) * w (ix2 ⟨a + k.val, by omega⟩ j)

/-- The result array. -/
def mixed (o0 o1 o2 o3 : Vec Ideal S32768x256 .f32) (w : Vec Ideal S1024x1024 .f32) (r : Vec Ideal S32768x1024 .f32) : Vec Ideal S32768x1024 .f32 := fun i =>
  r i + part 0 (by decide) o0 w (i 0) (i 1) + part 256 (by decide) o1 w (i 0) (i 1) + part 512 (by decide) o2 w (i 0) (i 1) + part 768 (by decide) o3 w (i 0) (i 1)

/-- What the body stores, at an index. -/
theorem pay_at (r : Vec Ideal S512x1024 .f32) (o0 : Vec Ideal S512x256 .f32) (w0 : Vec Ideal S256x1024 .bf16) (o1 : Vec Ideal S512x256 .f32) (w1 : Vec Ideal S256x1024 .bf16)
    (o2 : Vec Ideal S512x256 .f32) (w2 : Vec Ideal S256x1024 .bf16) (o3 : Vec Ideal S512x256 .f32) (w3 : Vec Ideal S256x1024 .bf16) (n : Fin 512) (j : Fin 1024) :
    k0_pay1 r o0 w0 o1 w1 o2 w2 o3 w3 (ix2 n j) = r (ix2 n j) + (∑ k : Fin 256, o0 (ix2 n k) * w0 (ix2 k j)) + (∑ k : Fin 256, o1 (ix2 n k) * w1 (ix2 k j))
      + (∑ k : Fin 256, o2 (ix2 n k) * w2 (ix2 k j)) + ∑ k : Fin 256, o3 (ix2 n k) * w3 (ix2 k j) := by
  pointwise [k0_pay1]

variable (m : (ℓ : Loc nD τ sig) → Buf (Elt Ideal) ℓ) (c : Dev nD)

/-- A quarter of the weight, as the region finds it. -/
theorem weights (k : Fin 256) (j : Fin 1024) :
    (V m c main_v1 : Vec Ideal S256x1024 .bf16) (ix2 k j) = (m ((c : Thread nD τ).loc main_arg4) : Vec Ideal S1024x1024 .f32) (ix2 ⟨0 + k.val, by omega⟩ j)
    ∧ (V m c main_v2 : Vec Ideal S256x1024 .bf16) (ix2 k j) = (m ((c : Thread nD τ).loc main_arg4) : Vec Ideal S1024x1024 .f32) (ix2 ⟨256 + k.val, by omega⟩ j)
    ∧ (V m c main_v3 : Vec Ideal S256x1024 .bf16) (ix2 k j) = (m ((c : Thread nD τ).loc main_arg4) : Vec Ideal S1024x1024 .f32) (ix2 ⟨512 + k.val, by omega⟩ j)
    ∧ (V m c main_v4 : Vec Ideal S256x1024 .bf16) (ix2 k j) = (m ((c : Thread nD τ).loc main_arg4) : Vec Ideal S1024x1024 .f32) (ix2 ⟨768 + k.val, by omega⟩ j) := by
  refine ⟨?_, ?_, ?_, ?_⟩ <;> (unfold_abbrev_sides; after_results; pointwise)

theorem index : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![t.val, 0] ∧ win0_9.index t = ![t.val, 0] := by decide +kernel

/-- The array that the launch leaves. -/
theorem array_eq : (dats m 0 c).arrAt 9 cfg0.N = mixed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 9 _ (by decide +kernel) fun t hf y => ?_
  obtain ⟨e0, e1, e2, e3, e4, e5, e6, e7, e8, e9⟩ := index t
  blk_simp
  rw [after0_9]
  frame_out
  have ht : t.val < 64 := t.isLt
  have y0 : (y 0).val < 512 := (y 0).isLt
  obtain ⟨n, hn⟩ : ∃ n : Fin 32768, n.val = 512 * t.val + (y 0).val := ⟨⟨512 * t.val + (y 0).val, by omega⟩, rfl⟩
  have ey : (ix2 (y 0) (y 1) : S512x1024.Idx) = y := funext fun b => by fin_cases b <;> rfl
  have eo : ((View.whole main_v5).slice (win0_9.rect t)).emb y = (ix2 n (y 1) : S32768x1024.Idx) := by blk_ext [e9]
  rw [eo]
  refine (congrArg _ ey.symm).trans ((pay_at ..).trans ?_)
  have r0 : (iblk m c 8 t : Vec Ideal S512x1024 .f32) (ix2 (y 0) (y 1)) = (m ((c : Thread nD τ).loc main_arg5) : Vec Ideal S32768x1024 .f32) (ix2 n (y 1)) := by
    blk_ext [iblk, V_main_arg5, e8]
  have p0 : ∀ k : Fin 256, (iblk m c 0 t : Vec Ideal S512x256 .f32) (ix2 (y 0) k) = (m ((c : Thread nD τ).loc main_arg0) : Vec Ideal S32768x256 .f32) (ix2 n k) := fun k => by
    blk_ext [iblk, V_main_arg0, e0]
  have p1 : ∀ k : Fin 256, (iblk m c 1 t : Vec Ideal S512x256 .f32) (ix2 (y 0) k) = (m ((c : Thread nD τ).loc main_arg1) : Vec Ideal S32768x256 .f32) (ix2 n k) := fun k => by
    blk_ext [iblk, V_main_arg1, e1]
  have p2 : ∀ k : Fin 256, (iblk m c 2 t : Vec Ideal S512x256 .f32) (ix2 (y 0) k) = (m ((c : Thread nD τ).loc main_arg2) : Vec Ideal S32768x256 .f32) (ix2 n k) := fun k => by
    blk_ext [iblk, V_main_arg2, e2]
  have p3 : ∀ k : Fin 256, (iblk m c 3 t : Vec Ideal S512x256 .f32) (ix2 (y 0) k) = (m ((c : Thread nD τ).loc main_arg3) : Vec Ideal S32768x256 .f32) (ix2 n k) := fun k => by
    blk_ext [iblk, V_main_arg3, e3]
  have w0 : ∀ k : Fin 256, (iblk m c 4 t : Vec Ideal S256x1024 .bf16) (ix2 k (y 1)) = _ := fun k => Eq.trans (by
    show V m c main_v1 _ = V m c main_v1 (ix2 k (y 1)); blk_ext [e4]) (weights m c k (y 1)).1
  have w1 : ∀ k : Fin 256, (iblk m c 5 t : Vec Ideal S256x1024 .bf16) (ix2 k (y 1)) = _ := fun k => Eq.trans (by
    show V m c main_v2 _ = V m c main_v2 (ix2 k (y 1)); blk_ext [e5]) (weights m c k (y 1)).2.1
  have w2 : ∀ k : Fin 256, (iblk m c 6 t : Vec Ideal S256x1024 .bf16) (ix2 k (y 1)) = _ := fun k => Eq.trans (by
    show V m c main_v3 _ = V m c main_v3 (ix2 k (y 1)); blk_ext [e6]) (weights m c k (y 1)).2.2.1
  have w3 : ∀ k : Fin 256, (iblk m c 7 t : Vec Ideal S256x1024 .bf16) (ix2 k (y 1)) = _ := fun k => Eq.trans (by
    show V m c main_v4 _ = V m c main_v4 (ix2 k (y 1)); blk_ext [e7]) (weights m c k (y 1)).2.2.2
  rw [r0]
  simp only [p0, p1, p2, p3, w0, w1, w2, w3]
  rfl

/-- A sum over 1024 by its four quarters. -/
theorem sum_quarters (f : Fin 1024 → EReal) : ∑ k, f k = (∑ k : Fin 256, f ⟨0 + k.val, by omega⟩) + (∑ k : Fin 256, f ⟨256 + k.val, by omega⟩)
    + (∑ k : Fin 256, f ⟨512 + k.val, by omega⟩) + ∑ k : Fin 256, f ⟨768 + k.val, by omega⟩ := by
  have h1 := Fin.sum_univ_add (a := 256 + 256 + 256) (b := 256) f
  have h2 := Fin.sum_univ_add (a := 256 + 256) (b := 256) fun k => f (Fin.castAdd 256 k)
  have h3 := Fin.sum_univ_add (a := 256) (b := 256) fun k => f (Fin.castAdd 256 (Fin.castAdd 256 k))
  refine h1.trans (congrArg₂ (· + ·) (h2.trans (congrArg₂ (· + ·) (h3.trans (congrArg₂ (· + ·) ?_ rfl)) rfl)) rfl)
  exact Finset.sum_congr rfl fun k _ => congrArg f (Fin.ext (Nat.zero_add _).symm)

open Cert.Reference3Ideal.Read

/-- The parts side by side, read in each quarter of the columns. -/
theorem joined (o0 o1 o2 o3 : Vec Ideal S32768x256 .f32) (n : Fin 32768) (k : Fin 256) :
    val_main_v0 (F := Ideal) o0 o1 o2 o3 (ix2 n ⟨0 + k.val, by omega⟩) = o0 (ix2 n k)
    ∧ val_main_v0 (F := Ideal) o0 o1 o2 o3 (ix2 n ⟨256 + k.val, by omega⟩) = o1 (ix2 n k)
    ∧ val_main_v0 (F := Ideal) o0 o1 o2 o3 (ix2 n ⟨512 + k.val, by omega⟩) = o2 (ix2 n k)
    ∧ val_main_v0 (F := Ideal) o0 o1 o2 o3 (ix2 n ⟨768 + k.val, by omega⟩) = o3 (ix2 n k) := by
  refine ⟨?_, ?_, ?_, ?_⟩ <;> pointwise [val_main_v0]
  · rw [dif_neg (by omega), dif_neg (by omega), dif_pos (by omega)]
    exact congrArg (fun x => o2 (ix2 n x)) (Fin.ext (by show 512 + k.val - 256 - 256 = k.val; omega))
  · rw [dif_neg (by omega), dif_neg (by omega), dif_neg (by omega)]
    exact congrArg (fun x => o3 (ix2 n x)) (Fin.ext (by show 768 + k.val - 256 - 256 - 256 = k.val; omega))

/-- The reference's array is the same. -/
theorem reference_eq (o0 o1 o2 o3 : Vec Ideal S32768x256 .f32) (w : Vec Ideal S1024x1024 .f32) (r : Vec Ideal S32768x1024 .f32) :
    val_main_v2 (F := Ideal) o0 o1 o2 o3 w r = mixed o0 o1 o2 o3 w r := by
  have h : ∀ (n : Fin 32768) (j : Fin 1024), val_main_v2 (F := Ideal) o0 o1 o2 o3 w r (ix2 n j) = mixed o0 o1 o2 o3 w r (ix2 n j) := fun n j => by
    rw [val_main_v2_apply, val_main_v1_apply]
    have hl : (∑ k : Fin 1024, val_main_v0 (F := Ideal) o0 o1 o2 o3 (lidx_main_v1 (ix2 n j) k) * w (ridx_main_v1 (ix2 n j) k))
        = ∑ k : Fin 1024, val_main_v0 (F := Ideal) o0 o1 o2 o3 (ix2 n k) * w (ix2 k j) :=
      Finset.sum_congr rfl fun k _ => congrArg₂ (· * ·) (congrArg _ (funext fun a => by fin_cases a <;> rfl)) (congrArg _ (funext fun a => by fin_cases a <;> rfl))
    rw [hl, sum_quarters]
    simp only [(joined o0 o1 o2 o3 n _).1, (joined o0 o1 o2 o3 n _).2.1, (joined o0 o1 o2 o3 n _).2.2.1, (joined o0 o1 o2 o3 n _).2.2.2]
    show r (ix2 n j) + (part 0 (by decide) o0 w n j + part 256 (by decide) o1 w n j + part 512 (by decide) o2 w n j + part 768 (by decide) o3 w n j)
      = r (ix2 n j) + part 0 (by decide) o0 w n j + part 256 (by decide) o1 w n j + part 512 (by decide) o2 w n j + part 768 (by decide) o3 w n j
    simp only [add_assoc]
  funext i
  have e : (ix2 (i 0) (i 1) : S32768x1024.Idx) = i := funext fun b => by fin_cases b <;> rfl
  exact (congrArg _ e.symm).trans ((h _ _).trans (congrArg _ e))

end Cert.Mix

end
-- ==== Proof.Normed.lean ====
/- Root-mean-square normalisation of a row of 1024, and the host's lines for it. -/
module

public import proofs.«01_k».proof.Proof.Gen.Reference4Ideal.Read
public import Idealize.ShloMosaic.Lib.Pointwise
public import Idealize.ShloMosaic.Lib.IdealHost

@[expose] public section

set_option maxRecDepth 16384

noncomputable section

namespace Cert.Normed

open Idealize.ShloMosaic
open Cert.Reference4Ideal Cert.Reference4Ideal.Read

/-- Entry `j` of the row `x`, normalised: times the reciprocal root of the row's mean square (the two words are 1024 and the epsilon), times the gain. -/
def normed (x : Fin 1024 → EReal) (g : Fin 1024 → EReal) (j : Fin 1024) : EReal :=
  x j * Ideal.rsqrt (Ideal.div (∑ k, x k * x k) (Ideal.ofBits .f32 1149239296#32) + Ideal.ofBits .f32 897988541#32) * g j

/-- The host's lines for it, at an index. -/
theorem host_at (x : Vec Ideal S32768x1024 .f32) (g : Vec Ideal S1024 .f32) (n : Fin 32768) (j : Fin 1024) :
    val_main_v12 (F := Ideal) x g (ix2 n j) = normed (fun k => x (ix2 n k)) (fun k => g (ix1 k)) j := by
  simp only [val_main_v12_apply, val_main_v11_apply, val_main_v10_apply, val_main_v9_apply, val_main_v8_apply, val_main_v7_apply, val_main_v6_apply, val_main_v5_apply,
    val_main_v4_apply, val_main_v3_apply, val_main_v2_apply, val_main_v1_apply, val_main_v0_apply, val_main_cst_apply, val_main_cst_0_apply, val_main_cst_1_apply]
  have e : ∀ k, idx_main_v1 (idx_main_v2 (idx_main_v8 (ix2 n j))) k = ix2 n k := fun k => funext fun a => by fin_cases a <;> rfl
  have eg : idx_main_v10 (idx_main_v11 (ix2 n j)) = ix1 j := funext fun a => by fin_cases a; rfl
  simp only [e, eg]
  show x (ix2 n j) * Ideal.rsqrt (Ideal.div (Ideal.ofBits .f32 0#32 + ∑ k : Fin 1024, x (ix2 n k) * x (ix2 n k)) (Ideal.ofBits .f32 1149239296#32) + Ideal.ofBits .f32 897988541#32) * g (ix1 j) = _
  rw [Ideal.ofBits_zero_f32, zero_add]
  rfl

end Cert.Normed

end
-- ==== Proof.Norm.lean ====
/- The final norm: each row of the result is the row times the reciprocal root of its mean square, times the gain. -/
module

public import proofs.«01_k».proof.Proof.Gen.Kernel4Ideal.Value
public import proofs.«01_k».proof.Proof.Normed
public import Idealize.ShloMosaic.Lib.Pointwise
public import Idealize.ShloMosaic.Lib.Pipeline.ValueKit

@[expose] public section

set_option maxRecDepth 16384

noncomputable section

namespace Cert.Norm

open Idealize.ShloMosaic Idealize.ShloMosaic.TcCoe
open Cert.Kernel4Ideal Cert.Kernel4Ideal.Gen Cert.Normed

/-- The result array. -/
def normedRows (x : Vec Ideal S32768x1024 .f32) (g : Vec Ideal S1024 .f32) : Vec Ideal S32768x1024 .f32 := fun i =>
  normed (fun k => x (ix2 (i 0) k)) (fun k => g (ix1 k)) (i 1)

/-- What the body stores, at an index. -/
theorem pay_at (x : Vec Ideal S512x1024 .f32) (g : Vec Ideal S1x1024 .f32) (n : Fin 512) (j : Fin 1024) :
    k0_pay1 x g (ix2 n j) = normed (fun k => x (ix2 n k)) (fun k => g (ix2 0 k)) j := by
  pointwise [k0_pay1, normed]

variable (m : (ℓ : Loc nD τ sig) → Buf (Elt Ideal) ℓ) (c : Dev nD)

/-- The gain, as the region finds it. -/
theorem gain (j : Fin 1024) : (V m c main_v0 : Vec Ideal S1x1024 .f32) (ix2 0 j) = (m ((c : Thread nD τ).loc main_arg1) : Vec Ideal S1024 .f32) (ix1 j) := by
  unfold_abbrev_sides
  after_results
  pointwise

theorem index : ∀ t : Fin cfg0.N, win0_0.index t = ![t.val, 0] ∧ win0_1.index t = ![0, 0] ∧ win0_2.index t = ![t.val, 0] := by decide +kernel

/-- The array that the launch leaves. -/
theorem array_eq : (dats m 0 c).arrAt 2 cfg0.N = normedRows (m ((c : Thread nD τ).loc main_arg0)) (m ((c : Thread nD τ).loc main_arg1)) := by
  refine (dats m 0 c).arrAt_eq_of_covers 2 _ (by decide +kernel) fun t hf y => ?_
  obtain ⟨e0, e1, e2⟩ := index t
  blk_simp
  rw [after0_2]
  frame_out
  have ht : t.val < 64 := t.isLt
  have y0 : (y 0).val < 512 := (y 0).isLt
  obtain ⟨n, hn⟩ : ∃ n : Fin 32768, n.val = 512 * t.val + (y 0).val := ⟨⟨512 * t.val + (y 0).val, by omega⟩, rfl⟩
  have ey : (ix2 (y 0) (y 1) : S512x1024.Idx) = y := funext fun b => by fin_cases b <;> rfl
  have eo : ((View.whole main_v1).slice (win0_2.rect t)).emb y = (ix2 n (y 1) : S32768x1024.Idx) := by blk_ext [e2]
  rw [eo]
  refine (congrArg _ ey.symm).trans ((pay_at ..).trans ?_)
  have r0 : ∀ k : Fin 1024, (iblk m c 0 t : Vec Ideal S512x1024 .f32) (ix2 (y 0) k) = (m ((c : Thread nD τ).loc main_arg0) : Vec Ideal S32768x1024 .f32) (ix2 n k) := fun k => by
    blk_ext [iblk, V_main_arg0, e0]
  have w0 : ∀ k : Fin 1024, (iblk m c 1 t : Vec Ideal S1x1024 .f32) (ix2 0 k) = _ := fun k => Eq.trans (by
    show V m c main_v0 _ = V m c main_v0 (ix2 0 k); blk_ext [e1]) (gain m c k)
  simp only [r0, w0]
  rfl

/-- The reference's array is the same. -/
theorem reference_eq (x : Vec Ideal S32768x1024 .f32) (g : Vec Ideal S1024 .f32) : Cert.Reference4Ideal.Read.val_main_v12 (F := Ideal) x g = normedRows x g := by
  funext i
  have e : (ix2 (i 0) (i 1) : S32768x1024.Idx) = i := funext fun b => by fin_cases b <;> rfl
  exact (congrArg _ e.symm).trans (host_at x g _ _)

end Cert.Norm

end
-- ==== Proof.Launch2.lean ====
/- The input projection's launch: what one grid point does to its buffers, and the arrays that the run leaves. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- They cut the weight into the sixteen that the region is given. -/
abbrev cuts : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]

/-- A buffer of core `c` as the region finds it. -/
abbrev V (c : Dev nD) (b : Ref sig .tc) : Buf (Elt F) ((c : Thread nD τ).loc b) :=
  StableHlo.after (List.flatten cuts) (fun b => m (c, b)) b

theorem cuts_fresh : (cuts : List (List (HloOp τ sig (Elt F)))).Forall fun ops => ops.Forall fun op => op.fresh = ∅ := by
  simp only [List.Forall]; repeat' constructor

set_option maxHeartbeats 800000 in
theorem to_region (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main cuts (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩) cuts_fresh main_chain

/-- None of them writes an argument. -/
theorem V_arg (c : Dev nD) (b : Ref sig .tc) (hb : b = main_arg0 ∨ b = main_arg1 ∨ b = main_arg2) : V m c b = m ((c : Thread nD τ).loc b) := by
  rcases hb with rfl | rfl | rfl <;>
    exact StableHlo.after_of_forall_not_mem (b := Proc.devRef .tc _) _ _ (List.forall_iff_forall_mem.mp (by
      simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide)))

/-! ## One grid point -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev rx : Rect S512x1024 := Rect.unit (s := S512x1024) ![0, 0] S512x1024.size inb_S512x1024_S512x1024_0_0
abbrev rg : Rect S1x1024 := Rect.unit (s := S1x1024) ![0, 0] S1x1024.size inb_S1x1024_S1x1024_0_0
abbrev rw64 : Rect S1024x64 := Rect.unit (s := S1024x64) ![0, 0] S1024x64.size inb_S1024x64_S1024x64_0_0
abbrev ro64 : Rect S512x64 := Rect.unit (s := S512x64) ![0, 0] S512x64.size inb_S512x64_S512x64_0_0
abbrev rw128 : Rect S1024x128 := Rect.unit (s := S1024x128) ![0, 0] S1024x128.size inb_S1024x128_S1024x128_0_0
abbrev ro128 : Rect S512x128 := Rect.unit (s := S512x128) ![0, 0] S512x128.size inb_S512x128_S512x128_0_0
abbrev rw256 : Rect S1024x256 := Rect.unit (s := S1024x256) ![0, 0] S1024x256.size inb_S1024x256_S1024x256_0_0
abbrev ro256 : Rect S512x256 := Rect.unit (s := S512x256) ![0, 0] S512x256.size inb_S512x256_S512x256_0_0
abbrev rw768 : Rect S1024x768 := Rect.unit (s := S1024x768) ![0, 0] S1024x768.size inb_S1024x768_S1024x768_0_0
abbrev ro768 : Rect S512x768 := Rect.unit (s := S512x768) ![0, 0] S512x768.size inb_S512x768_S512x768_0_0

set_option maxHeartbeats 2000000 in
/-- The body reads the rows, the gain and the sixteen weights, and stores sixteen products. -/
theorem body_run (c : Dev nD) (E : Set ℕ) (i : grid0.Coords) {a0 : Memref sig .tc .vmem S512x1024 .f32} (h0 : a0.IsWhole) {a1 : Memref sig .tc .vmem S1x1024 .f32} (h1 : a1.IsWhole) {a2 : Memref sig .tc .vmem S1024x256 .bf16} (h2 : a2.IsWhole) {a3 : Memref sig .tc .vmem S1024x64 .bf16} (h3 : a3.IsWhole) {a4 : Memref sig .tc .vmem S1024x64 .bf16} (h4 : a4.IsWhole) {a5 : Memref sig .tc .vmem S1024x64 .bf16} (h5 : a5.IsWhole) {a6 : Memref sig .tc .vmem S1024x128 .bf16} (h6 : a6.IsWhole) {a7 : Memref sig .tc .vmem S1024x64 .bf16} (h7 : a7.IsWhole) {a8 : Memref sig .tc .vmem S1024x128 .bf16} (h8 : a8.IsWhole) {a9 : Memref sig .tc .vmem S1024x256 .bf16} (h9 : a9.IsWhole) {a10 : Memref sig .tc .vmem S1024x256 .bf16} (h10 : a10.IsWhole) {a11 : Memref sig .tc .vmem S1024x256 .bf16} (h11 : a11.IsWhole) {a12 : Memref sig .tc .vmem S1024x256 .bf16} (h12 : a12.IsWhole) {a13 : Memref sig .tc .vmem S1024x768 .bf16} (h13 : a13.IsWhole) {a14 : Memref sig .tc .vmem S1024x256 .bf16} (h14 : a14.IsWhole) {a15 : Memref sig .tc .vmem S1024x256 .bf16} (h15 : a15.IsWhole) {a16 : Memref sig .tc .vmem S1024x128 .bf16} (h16 : a16.IsWhole) {a17 : Memref sig .tc .vmem S1024x128 .bf16} (h17 : a17.IsWhole) {a18 : Memref sig .tc .vmem S512x256 .f32} (h18 : a18.IsWhole) {a19 : Memref sig .tc .vmem S512x64 .f32} (h19 : a19.IsWhole) {a20 : Memref sig .tc .vmem S512x64 .f32} (h20 : a20.IsWhole) {a21 : Memref sig .tc .vmem S512x64 .bf16} (h21 : a21.IsWhole) {a22 : Memref sig .tc .vmem S512x128 .bf16} (h22 : a22.IsWhole) {a23 : Memref sig .tc .vmem S512x64 .bf16} (h23 : a23.IsWhole) {a24 : Memref sig .tc .vmem S512x128 .bf16} (h24 : a24.IsWhole) {a25 : Memref sig .tc .vmem S512x256 .f32} (h25 : a25.IsWhole) {a26 : Memref sig .tc .vmem S512x256 .f32} (h26 : a26.IsWhole) {a27 : Memref sig .tc .vmem S512x256 .f32} (h27 : a27.IsWhole) {a28 : Memref sig .tc .vmem S512x256 .f32} (h28 : a28.IsWhole) {a29 : Memref sig .tc .vmem S512x768 .f32} (h29 : a29.IsWhole) {a30 : Memref sig .tc .vmem S512x256 .f32} (h30 : a30.IsWhole) {a31 : Memref sig .tc .vmem S512x256 .f32} (h31 : a31.IsWhole) {a32 : Memref sig .tc .vmem S512x128 .f32} (h32 : a32.IsWhole) {a33 : Memref sig .tc .vmem S512x128 .f32} (h33 : a33.IsWhole)
    (x0 : Vec F S512x1024 .f32) (x1 : Vec F S1x1024 .f32) (x2 : Vec F S1024x256 .bf16) (x3 : Vec F S1024x64 .bf16) (x4 : Vec F S1024x64 .bf16) (x5 : Vec F S1024x64 .bf16) (x6 : Vec F S1024x128 .bf16) (x7 : Vec F S1024x64 .bf16) (x8 : Vec F S1024x128 .bf16) (x9 : Vec F S1024x256 .bf16) (x10 : Vec F S1024x256 .bf16) (x11 : Vec F S1024x256 .bf16) (x12 : Vec F S1024x256 .bf16) (x13 : Vec F S1024x768 .bf16) (x14 : Vec F S1024x256 .bf16) (x15 : Vec F S1024x256 .bf16) (x16 : Vec F S1024x128 .bf16) (x17 : Vec F S1024x128 .bf16) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d) ∗ (∃ d, owns (c : Thread nD τ) a26 fullShare d) ∗ (∃ d, owns (c : Thread nD τ) a27 fullShare d) ∗ (∃ d, owns (c : Thread nD τ) a28 fullShare d) ∗ (∃ d, owns (c : Thread nD τ) a29 fullShare d) ∗ (∃ d, owns (c : Thread nD τ) a30 fullShare d) ∗ (∃ d, owns (c : Thread nD τ) a31 fullShare d) ∗ (∃ d, owns (c : Thread nD τ) a32 fullShare d) ∗ (∃ d, owns (c : Thread nD τ) a33 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17
          ∗ owns (c : Thread nD τ) a18 fullShare (View.canon [⟨ro256, k0_pay5 (View.ld x0 rx) (View.ld x1 rg) (View.ld x2 rw256)⟩])
          ∗ owns (c : Thread nD τ) a19 fullShare (View.canon [⟨ro64, k0_pay6 (View.ld x0 rx) (View.ld x1 rg) (View.ld x3 rw64)⟩])
          ∗ owns (c : Thread nD τ) a20 fullShare (View.canon [⟨ro64, k0_pay7 (View.ld x0 rx) (View.ld x1 rg) (View.ld x4 rw64)⟩])
          ∗ owns (c : Thread nD τ) a21 fullShare (View.canon [⟨ro64, k0_pay9 (k0_pay8 (View.ld x0 rx) (View.ld x1 rg) (View.ld x5 rw64))⟩])
          ∗ owns (c : Thread nD τ) a22 fullShare (View.canon [⟨ro128, k0_pay10 (k0_pay4 (View.ld x0 rx) (View.ld x1 rg)) (View.ld x6 rw128)⟩])
          ∗ owns (c : Thread nD τ) a23 fullShare (View.canon [⟨ro64, k0_pay11 (k0_pay4 (View.ld x0 rx) (View.ld x1 rg)) (View.ld x7 rw64)⟩])
          ∗ owns (c : Thread nD τ) a24 fullShare (View.canon [⟨ro128, k0_pay12 (k0_pay4 (View.ld x0 rx) (View.ld x1 rg)) (View.ld x8 rw128)⟩])
          ∗ owns (c : Thread nD τ) a25 fullShare (View.canon [⟨ro256, k0_pay13 (k0_pay4 (View.ld x0 rx) (View.ld x1 rg)) (View.ld x9 rw256)⟩])
          ∗ owns (c : Thread nD τ) a26 fullShare (View.canon [⟨ro256, k0_pay14 (k0_pay4 (View.ld x0 rx) (View.ld x1 rg)) (View.ld x10 rw256)⟩])
          ∗ owns (c : Thread nD τ) a27 fullShare (View.canon [⟨ro256, k0_pay15 (k0_pay4 (View.ld x0 rx) (View.ld x1 rg)) (View.ld x11 rw256)⟩])
          ∗ owns (c : Thread nD τ) a28 fullShare (View.canon [⟨ro256, k0_pay16 (k0_pay4 (View.ld x0 rx) (View.ld x1 rg)) (View.ld x12 rw256)⟩])
          ∗ owns (c : Thread nD τ) a29 fullShare (View.canon [⟨ro768, k0_pay17 (k0_pay4 (View.ld x0 rx) (View.ld x1 rg)) (View.ld x13 rw768)⟩])
          ∗ owns (c : Thread nD τ) a30 fullShare (View.canon [⟨ro256, k0_pay18 (k0_pay4 (View.ld x0 rx) (View.ld x1 rg)) (View.ld x14 rw256)⟩])
          ∗ owns (c : Thread nD τ) a31 fullShare (View.canon [⟨ro256, k0_pay1 (k0_pay4 (View.ld x0 rx) (View.ld x1 rg)) (View.ld x15 rw256)⟩])
          ∗ owns (c : Thread nD τ) a32 fullShare (View.canon [⟨ro128, k0_pay2 (k0_pay4 (View.ld x0 rx) (View.ld x1 rg)) (View.ld x16 rw128)⟩])
          ∗ owns (c : Thread nD τ) a33 fullShare (View.canon [⟨ro128, k0_pay3 (k0_pay4 (View.ld x0 rx) (View.ld x1 rg)) (View.ld x17 rw128)⟩])) -∗ K ⟨⟩))
      ⊢ wp frame (wpE (defs₀ (F := F)) Variants.none c none) E (cc0_norm_matmul i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33) K := by
  simp only [cc0_norm_matmul_eq_skeleton]; unfold cc0_norm_matmul_skel
  simp only [k0_part1_eq_skeleton, k0_part2_eq_skeleton, k0_part3_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
  subst e0 e1 e2 e3 e4 e5 e6 e7 e8 e9 e10 e11 e12 e13 e14 e15 e16 e17
  sl_exec
  sl_step
  iapply Hk
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  isplitl [H9]; · iexists f9; isplitr; swap; (· iexact H9); ipureintro; rfl
  isplitl [H10]; · iexists f10; isplitr; swap; (· iexact H10); ipureintro; rfl
  isplitl [H11]; · iexists f11; isplitr; swap; (· iexact H11); ipureintro; rfl
  isplitl [H12]; · iexists f12; isplitr; swap; (· iexact H12); ipureintro; rfl
  isplitl [H13]; · iexists f13; isplitr; swap; (· iexact H13); ipureintro; rfl
  isplitl [H14]; · iexists f14; isplitr; swap; (· iexact H14); ipureintro; rfl
  isplitl [H15]; · iexists f15; isplitr; swap; (· iexact H15); ipureintro; rfl
  isplitl [H16]; · iexists f16; isplitr; swap; (· iexact H16); ipureintro; rfl
  isplitl [H17]; · iexists f17; isplitr; swap; (· iexact H17); ipureintro; rfl
  isplitl [H18]; · iexists _; isplitr; swap; (· iexact H18); ipureintro; exact (View.read_writes_eq_canon _ _ _ (View.cover_of_tiled [⟨ro256, _⟩] S512x256.size (by rfl))).trans rfl
  isplitl [H19]; · iexists _; isplitr; swap; (· iexact H19); ipureintro; exact (View.read_writes_eq_canon _ _ _ (View.cover_of_tiled [⟨ro64, _⟩] S512x64.size (by rfl))).trans rfl
  isplitl [H20]; · iexists _; isplitr; swap; (· iexact H20); ipureintro; exact (View.read_writes_eq_canon _ _ _ (View.cover_of_tiled [⟨ro64, _⟩] S512x64.size (by rfl))).trans rfl
  isplitl [H21]; · iexists _; isplitr; swap; (· iexact H21); ipureintro; exact (View.read_writes_eq_canon _ _ _ (View.cover_of_tiled [⟨ro64, _⟩] S512x64.size (by rfl))).trans rfl
  isplitl [H22]; · iexists _; isplitr; swap; (· iexact H22); ipureintro; exact (View.read_writes_eq_canon _ _ _ (View.cover_of_tiled [⟨ro128, _⟩] S512x128.size (by rfl))).trans rfl
  isplitl [H23]; · iexists _; isplitr; swap; (· iexact H23); ipureintro; exact (View.read_writes_eq_canon _ _ _ (View.cover_of_tiled [⟨ro64, _⟩] S512x64.size (by rfl))).trans rfl
  isplitl [H24]; · iexists _; isplitr; swap; (· iexact H24); ipureintro; exact (View.read_writes_eq_canon _ _ _ (View.cover_of_tiled [⟨ro128, _⟩] S512x128.size (by rfl))).trans rfl
  isplitl [H25]; · iexists _; isplitr; swap; (· iexact H25); ipureintro; exact (View.read_writes_eq_canon _ _ _ (View.cover_of_tiled [⟨ro256, _⟩] S512x256.size (by rfl))).trans rfl
  isplitl [H26]; · iexists _; isplitr; swap; (· iexact H26); ipureintro; exact (View.read_writes_eq_canon _ _ _ (View.cover_of_tiled [⟨ro256, _⟩] S512x256.size (by rfl))).trans rfl
  isplitl [H27]; · iexists _; isplitr; swap; (· iexact H27); ipureintro; exact (View.read_writes_eq_canon _ _ _ (View.cover_of_tiled [⟨ro256, _⟩] S512x256.size (by rfl))).trans rfl
  isplitl [H28]; · iexists _; isplitr; swap; (· iexact H28); ipureintro; exact (View.read_writes_eq_canon _ _ _ (View.cover_of_tiled [⟨ro256, _⟩] S512x256.size (by rfl))).trans rfl
  isplitl [H29]; · iexists _; isplitr; swap; (· iexact H29); ipureintro; exact (View.read_writes_eq_canon _ _ _ (View.cover_of_tiled [⟨ro768, _⟩] S512x768.size (by rfl))).trans rfl
  isplitl [H30]; · iexists _; isplitr; swap; (· iexact H30); ipureintro; exact (View.read_writes_eq_canon _ _ _ (View.cover_of_tiled [⟨ro256, _⟩] S512x256.size (by rfl))).trans rfl
  isplitl [H31]; · iexists _; isplitr; swap; (· iexact H31); ipureintro; exact (View.read_writes_eq_canon _ _ _ (View.cover_of_tiled [⟨ro256, _⟩] S512x256.size (by rfl))).trans rfl
  isplitl [H32]; · iexists _; isplitr; swap; (· iexact H32); ipureintro; exact (View.read_writes_eq_canon _ _ _ (View.cover_of_tiled [⟨ro128, _⟩] S512x128.size (by rfl))).trans rfl
  iexists _; isplitr; swap; (· iexact H33); ipureintro; exact (View.read_writes_eq_canon _ _ _ (View.cover_of_tiled [⟨ro128, _⟩] S512x128.size (by rfl))).trans rfl

/-- The launch's proof data: inputs keep their blocks, the sixteen outputs' buffers end with the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => View.canon [⟨ro256, k0_pay5 (View.ld (iblk m c 0 t) rx) (View.ld (iblk m c 1 t) rg) (View.ld (iblk m c 2 t) rw256)⟩]
    | ⟨19, _⟩ => View.canon [⟨ro64, k0_pay6 (View.ld (iblk m c 0 t) rx) (View.ld (iblk m c 1 t) rg) (View.ld (iblk m c 3 t) rw64)⟩]
    | ⟨20, _⟩ => View.canon [⟨ro64, k0_pay7 (View.ld (iblk m c 0 t) rx) (View.ld (iblk m c 1 t) rg) (View.ld (iblk m c 4 t) rw64)⟩]
    | ⟨21, _⟩ => View.canon [⟨ro64, k0_pay9 (k0_pay8 (View.ld (iblk m c 0 t) rx) (View.ld (iblk m c 1 t) rg) (View.ld (iblk m c 5 t) rw64))⟩]
    | ⟨22, _⟩ => View.canon [⟨ro128, k0_pay10 (k0_pay4 (View.ld (iblk m c 0 t) rx) (View.ld (iblk m c 1 t) rg)) (View.ld (iblk m c 6 t) rw128)⟩]
    | ⟨23, _⟩ => View.canon [⟨ro64, k0_pay11 (k0_pay4 (View.ld (iblk m c 0 t) rx) (View.ld (iblk m c 1 t) rg)) (View.ld (iblk m c 7 t) rw64)⟩]
    | ⟨24, _⟩ => View.canon [⟨ro128, k0_pay12 (k0_pay4 (View.ld (iblk m c 0 t) rx) (View.ld (iblk m c 1 t) rg)) (View.ld (iblk m c 8 t) rw128)⟩]
    | ⟨25, _⟩ => View.canon [⟨ro256, k0_pay13 (k0_pay4 (View.ld (iblk m c 0 t) rx) (View.ld (iblk m c 1 t) rg)) (View.ld (iblk m c 9 t) rw256)⟩]
    | ⟨26, _⟩ => View.canon [⟨ro256, k0_pay14 (k0_pay4 (View.ld (iblk m c 0 t) rx) (View.ld (iblk m c 1 t) rg)) (View.ld (iblk m c 10 t) rw256)⟩]
    | ⟨27, _⟩ => View.canon [⟨ro256, k0_pay15 (k0_pay4 (View.ld (iblk m c 0 t) rx) (View.ld (iblk m c 1 t) rg)) (View.ld (iblk m c 11 t) rw256)⟩]
    | ⟨28, _⟩ => View.canon [⟨ro256, k0_pay16 (k0_pay4 (View.ld (iblk m c 0 t) rx) (View.ld (iblk m c 1 t) rg)) (View.ld (iblk m c 12 t) rw256)⟩]
    | ⟨29, _⟩ => View.canon [⟨ro768, k0_pay17 (k0_pay4 (View.ld (iblk m c 0 t) rx) (View.ld (iblk m c 1 t) rg)) (View.ld (iblk m c 13 t) rw768)⟩]
    | ⟨30, _⟩ => View.canon [⟨ro256, k0_pay18 (k0_pay4 (View.ld (iblk m c 0 t) rx) (View.ld (iblk m c 1 t) rg)) (View.ld (iblk m c 14 t) rw256)⟩]
    | ⟨31, _⟩ => View.canon [⟨ro256, k0_pay1 (k0_pay4 (View.ld (iblk m c 0 t) rx) (View.ld (iblk m c 1 t) rg)) (View.ld (iblk m c 15 t) rw256)⟩]
    | ⟨32, _⟩ => View.canon [⟨ro128, k0_pay2 (k0_pay4 (View.ld (iblk m c 0 t) rx) (View.ld (iblk m c 1 t) rg)) (View.ld (iblk m c 16 t) rw128)⟩]
    | ⟨33, _⟩ => View.canon [⟨ro128, k0_pay3 (k0_pay4 (View.ld (iblk m c 0 t) rx) (View.ld (iblk m c 1 t) rg)) (View.ld (iblk m c 17 t) rw128)⟩]
    | ⟨_ + 34, h⟩ => absurd h (Nat.not_lt.2 (Nat.le_add_left _ _))
  Φ _ := Pipeline.ΦA spec0 c
  q _ := fullShare
  owed _ := 0

theorem dats_A (c : Dev nD) (w : Fin cfg0.W) : (dats m 0 c).A w = V m c (Pipeline.arrRef spec0 w) := by dsimp only [dats]

set_option maxHeartbeats 1000000 in
/-- What each window's buffer ends with, -/
theorem after_at (c : Dev nD) (t : Fin cfg0.N) :
    (dats m 0 c).after 0 t = iblk m c 0 t
      ∧ (dats m 0 c).after 1 t = iblk m c 1 t
      ∧ (dats m 0 c).after 2 t = iblk m c 2 t
      ∧ (dats m 0 c).after 3 t = iblk m c 3 t
      ∧ (dats m 0 c).after 4 t = iblk m c 4 t
      ∧ (dats m 0 c).after 5 t = iblk m c 5 t
      ∧ (dats m 0 c).after 6 t = iblk m c 6 t
      ∧ (dats m 0 c).after 7 t = iblk m c 7 t
      ∧ (dats m 0 c).after 8 t = iblk m c 8 t
      ∧ (dats m 0 c).after 9 t = iblk m c 9 t
      ∧ (dats m 0 c).after 10 t = iblk m c 10 t
      ∧ (dats m 0 c).after 11 t = iblk m c 11 t
      ∧ (dats m 0 c).after 12 t = iblk m c 12 t
      ∧ (dats m 0 c).after 13 t = iblk m c 13 t
      ∧ (dats m 0 c).after 14 t = iblk m c 14 t
      ∧ (dats m 0 c).after 15 t = iblk m c 15 t
      ∧ (dats m 0 c).after 16 t = iblk m c 16 t
      ∧ (dats m 0 c).after 17 t = iblk m c 17 t
      ∧ (dats m 0 c).after 18 t = View.canon [⟨ro256, k0_pay5 (View.ld (iblk m c 0 t) rx) (View.ld (iblk m c 1 t) rg) (View.ld (iblk m c 2 t) rw256)⟩]
      ∧ (dats m 0 c).after 19 t = View.canon [⟨ro64, k0_pay6 (View.ld (iblk m c 0 t) rx) (View.ld (iblk m c 1 t) rg) (View.ld (iblk m c 3 t) rw64)⟩]
      ∧ (dats m 0 c).after 20 t = View.canon [⟨ro64, k0_pay7 (View.ld (iblk m c 0 t) rx) (View.ld (iblk m c 1 t) rg) (View.ld (iblk m c 4 t) rw64)⟩]
      ∧ (dats m 0 c).after 21 t = View.canon [⟨ro64, k0_pay9 (k0_pay8 (View.ld (iblk m c 0 t) rx) (View.ld (iblk m c 1 t) rg) (View.ld (iblk m c 5 t) rw64))⟩]
      ∧ (dats m 0 c).after 22 t = View.canon [⟨ro128, k0_pay10 (k0_pay4 (View.ld (iblk m c 0 t) rx) (View.ld (iblk m c 1 t) rg)) (View.ld (iblk m c 6 t) rw128)⟩]
      ∧ (dats m 0 c).after 23 t = View.canon [⟨ro64, k0_pay11 (k0_pay4 (View.ld (iblk m c 0 t) rx) (View.ld (iblk m c 1 t) rg)) (View.ld (iblk m c 7 t) rw64)⟩]
      ∧ (dats m 0 c).after 24 t = View.canon [⟨ro128, k0_pay12 (k0_pay4 (View.ld (iblk m c 0 t) rx) (View.ld (iblk m c 1 t) rg)) (View.ld (iblk m c 8 t) rw128)⟩]
      ∧ (dats m 0 c).after 25 t = View.canon [⟨ro256, k0_pay13 (k0_pay4 (View.ld (iblk m c 0 t) rx) (View.ld (iblk m c 1 t) rg)) (View.ld (iblk m c 9 t) rw256)⟩]
      ∧ (dats m 0 c).after 26 t = View.canon [⟨ro256, k0_pay14 (k0_pay4 (View.ld (iblk m c 0 t) rx) (View.ld (iblk m c 1 t) rg)) (View.ld (iblk m c 10 t) rw256)⟩]
      ∧ (dats m 0 c).after 27 t = View.canon [⟨ro256, k0_pay15 (k0_pay4 (View.ld (iblk m c 0 t) rx) (View.ld (iblk m c 1 t) rg)) (View.ld (iblk m c 11 t) rw256)⟩]
      ∧ (dats m 0 c).after 28 t = View.canon [⟨ro256, k0_pay16 (k0_pay4 (View.ld (iblk m c 0 t) rx) (View.ld (iblk m c 1 t) rg)) (View.ld (iblk m c 12 t) rw256)⟩]
      ∧ (dats m 0 c).after 29 t = View.canon [⟨ro768, k0_pay17 (k0_pay4 (View.ld (iblk m c 0 t) rx) (View.ld (iblk m c 1 t) rg)) (View.ld (iblk m c 13 t) rw768)⟩]
      ∧ (dats m 0 c).after 30 t = View.canon [⟨ro256, k0_pay18 (k0_pay4 (View.ld (iblk m c 0 t) rx) (View.ld (iblk m c 1 t) rg)) (View.ld (iblk m c 14 t) rw256)⟩]
      ∧ (dats m 0 c).after 31 t = View.canon [⟨ro256, k0_pay1 (k0_pay4 (View.ld (iblk m c 0 t) rx) (View.ld (iblk m c 1 t) rg)) (View.ld (iblk m c 15 t) rw256)⟩]
      ∧ (dats m 0 c).after 32 t = View.canon [⟨ro128, k0_pay2 (k0_pay4 (View.ld (iblk m c 0 t) rx) (View.ld (iblk m c 1 t) rg)) (View.ld (iblk m c 16 t) rw128)⟩]
      ∧ (dats m 0 c).after 33 t = View.canon [⟨ro128, k0_pay3 (k0_pay4 (View.ld (iblk m c 0 t) rx) (View.ld (iblk m c 1 t) rg)) (View.ld (iblk m c 17 t) rw128)⟩] := by
  repeat' apply And.intro
  all_goals dsimp only [dats]

set_option maxHeartbeats 1000000 in
/-- and what the body finds in the inputs'. -/
theorem before_at (c : Dev nD) (t : Fin cfg0.N) :
    (∀ d, (dats m 0 c).before 0 t d = iblk m c 0 t)
      ∧ (∀ d, (dats m 0 c).before 1 t d = iblk m c 1 t)
      ∧ (∀ d, (dats m 0 c).before 2 t d = iblk m c 2 t)
      ∧ (∀ d, (dats m 0 c).before 3 t d = iblk m c 3 t)
      ∧ (∀ d, (dats m 0 c).before 4 t d = iblk m c 4 t)
      ∧ (∀ d, (dats m 0 c).before 5 t d = iblk m c 5 t)
      ∧ (∀ d, (dats m 0 c).before 6 t d = iblk m c 6 t)
      ∧ (∀ d, (dats m 0 c).before 7 t d = iblk m c 7 t)
      ∧ (∀ d, (dats m 0 c).before 8 t d = iblk m c 8 t)
      ∧ (∀ d, (dats m 0 c).before 9 t d = iblk m c 9 t)
      ∧ (∀ d, (dats m 0 c).before 10 t d = iblk m c 10 t)
      ∧ (∀ d, (dats m 0 c).before 11 t d = iblk m c 11 t)
      ∧ (∀ d, (dats m 0 c).before 12 t d = iblk m c 12 t)
      ∧ (∀ d, (dats m 0 c).before 13 t d = iblk m c 13 t)
      ∧ (∀ d, (dats m 0 c).before 14 t d = iblk m c 14 t)
      ∧ (∀ d, (dats m 0 c).before 15 t d = iblk m c 15 t)
      ∧ (∀ d, (dats m 0 c).before 16 t d = iblk m c 16 t)
      ∧ (∀ d, (dats m 0 c).before 17 t d = iblk m c 17 t) := by
  repeat' apply And.intro
  all_goals exact fun d => ((dats m 0 c).before_in_eq_fetched _ rfl (fun _ => rfl) (fun _ _ _ => rfl)
    (fun t => by unfold Dat.blockOf; rw [dats_A]; dsimp only [dats]; rfl) t d).trans (by unfold Dat.fetched Dat.blockOf iblk; rw [dats_A]; try rfl)

set_option maxHeartbeats 4000000 in
/-- The body at point `t`, from the buffers as the launch hands them over to the buffers as it takes them back. -/
theorem point_run (c : Dev nD) (t : Fin cfg0.N) :
    iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)) ∗ (∃ d, owns (c : Thread nD τ) (st0_21 t) fullShare ((dats m 0 c).before 21 t d)) ∗ (∃ d, owns (c : Thread nD τ) (st0_22 t) fullShare ((dats m 0 c).before 22 t d)) ∗ (∃ d, owns (c : Thread nD τ) (st0_23 t) fullShare ((dats m 0 c).before 23 t d)) ∗ (∃ d, owns (c : Thread nD τ) (st0_24 t) fullShare ((dats m 0 c).before 24 t d)) ∗ (∃ d, owns (c : Thread nD τ) (st0_25 t) fullShare ((dats m 0 c).before 25 t d)) ∗ (∃ d, owns (c : Thread nD τ) (st0_26 t) fullShare ((dats m 0 c).before 26 t d)) ∗ (∃ d, owns (c : Thread nD τ) (st0_27 t) fullShare ((dats m 0 c).before 27 t d)) ∗ (∃ d, owns (c : Thread nD τ) (st0_28 t) fullShare ((dats m 0 c).before 28 t d)) ∗ (∃ d, owns (c : Thread nD τ) (st0_29 t) fullShare ((dats m 0 c).before 29 t d)) ∗ (∃ d, owns (c : Thread nD τ) (st0_30 t) fullShare ((dats m 0 c).before 30 t d)) ∗ (∃ d, owns (c : Thread nD τ) (st0_31 t) fullShare ((dats m 0 c).before 31 t d)) ∗ (∃ d, owns (c : Thread nD τ) (st0_32 t) fullShare ((dats m 0 c).before 32 t d)) ∗ (∃ d, owns (c : Thread nD τ) (st0_33 t) fullShare ((dats m 0 c).before 33 t d)))
    ⊢ wp frame (wpE (defs₀ (F := F)) Variants.none c none) Set.univ (bodyAt0 t) (fun _ => iprop((dats m 0 c).Φ t.succ ∗ (dats m 0 c).owesAt () t.succ
      ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t) ∗ owns (c : Thread nD τ) (st0_20 t) fullShare ((dats m 0 c).after 20 t) ∗ owns (c : Thread nD τ) (st0_21 t) fullShare ((dats m 0 c).after 21 t) ∗ owns (c : Thread nD τ) (st0_22 t) fullShare ((dats m 0 c).after 22 t) ∗ owns (c : Thread nD τ) (st0_23 t) fullShare ((dats m 0 c).after 23 t) ∗ owns (c : Thread nD τ) (st0_24 t) fullShare ((dats m 0 c).after 24 t) ∗ owns (c : Thread nD τ) (st0_25 t) fullShare ((dats m 0 c).after 25 t) ∗ owns (c : Thread nD τ) (st0_26 t) fullShare ((dats m 0 c).after 26 t) ∗ owns (c : Thread nD τ) (st0_27 t) fullShare ((dats m 0 c).after 27 t) ∗ owns (c : Thread nD τ) (st0_28 t) fullShare ((dats m 0 c).after 28 t) ∗ owns (c : Thread nD τ) (st0_29 t) fullShare ((dats m 0 c).after 29 t) ∗ owns (c : Thread nD τ) (st0_30 t) fullShare ((dats m 0 c).after 30 t) ∗ owns (c : Thread nD τ) (st0_31 t) fullShare ((dats m 0 c).after 31 t) ∗ owns (c : Thread nD τ) (st0_32 t) fullShare ((dats m 0 c).after 32 t) ∗ owns (c : Thread nD τ) (st0_33 t) fullShare ((dats m 0 c).after 33 t))) := by
  unfold bodyAt0
  simp only [before_at m c t, after_at m c t]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply (body_run c Set.univ (grid0.coords t) _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  iintro ⟨H0, H1, H2, H3, H4, H5, H6, H7, H8, H9, H10, H11, H12, H13, H14, H15, H16, H17, H18, H19, H20, H21, H22, H23, H24, H25, H26, H27, H28, H29, H30, H31, H32, H33⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

theorem body_row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, body_row]
  exact triple_restated (point_run m c t) rfl .rfl fun _ => .rfl

/-! ## The run -/

set_option backward.isDefEq.respectTransparency.types false in
set_option maxHeartbeats 800000 in
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := to_region m Variants.none) (hA := dats_A m) (hΦ := fun _ _ => rfl)

set_option maxHeartbeats 4000000 in
/-- The arrays at the end: the sixteen results as the launch leaves them, the arguments as they were. -/
theorem arrays_at (r : PUnit × MemSt nD τ sig (Elt F)) (h : Pipeline.FramePost cfgs (dats m) 0 (V m) r) (c : Dev nD) :
    r.2.mem ((c : Thread nD τ).loc main_v38_0) = (dats m 0 c).arrAt 18 cfg0.N
      ∧ r.2.mem ((c : Thread nD τ).loc main_v38_1) = (dats m 0 c).arrAt 19 cfg0.N
      ∧ r.2.mem ((c : Thread nD τ).loc main_v38_2) = (dats m 0 c).arrAt 20 cfg0.N
      ∧ r.2.mem ((c : Thread nD τ).loc main_v38_3) = (dats m 0 c).arrAt 21 cfg0.N
      ∧ r.2.mem ((c : Thread nD τ).loc main_v38_4) = (dats m 0 c).arrAt 22 cfg0.N
      ∧ r.2.mem ((c : Thread nD τ).loc main_v38_5) = (dats m 0 c).arrAt 23 cfg0.N
      ∧ r.2.mem ((c : Thread nD τ).loc main_v38_6) = (dats m 0 c).arrAt 24 cfg0.N
      ∧ r.2.mem ((c : Thread nD τ).loc main_v38_7) = (dats m 0 c).arrAt 25 cfg0.N
      ∧ r.2.mem ((c : Thread nD τ).loc main_v38_8) = (dats m 0 c).arrAt 26 cfg0.N
      ∧ r.2.mem ((c : Thread nD τ).loc main_v38_9) = (dats m 0 c).arrAt 27 cfg0.N
      ∧ r.2.mem ((c : Thread nD τ).loc main_v38_10) = (dats m 0 c).arrAt 28 cfg0.N
      ∧ r.2.mem ((c : Thread nD τ).loc main_v38_11) = (dats m 0 c).arrAt 29 cfg0.N
      ∧ r.2.mem ((c : Thread nD τ).loc main_v38_12) = (dats m 0 c).arrAt 30 cfg0.N
      ∧ r.2.mem ((c : Thread nD τ).loc main_v38_13) = (dats m 0 c).arrAt 31 cfg0.N
      ∧ r.2.mem ((c : Thread nD τ).loc main_v38_14) = (dats m 0 c).arrAt 32 cfg0.N
      ∧ r.2.mem ((c : Thread nD τ).loc main_v38_15) = (dats m 0 c).arrAt 33 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨(h c).1 18, (h c).1 19, (h c).1 20, (h c).1 21, (h c).1 22, (h c).1 23, (h c).1 24, (h c).1 25, (h c).1 26, (h c).1 27, (h c).1 28, (h c).1 29, (h c).1 30, (h c).1 31, (h c).1 32, (h c).1 33,
    ((h c).1 0).trans (((dats m 0 c).arrAt_in 0 rfl _).trans ((dats_A m c 0).trans (V_arg m c _ (.inl rfl)))),
    ((h c).2 main_arg1 (Pipeline.mem_restRefs_of main_arg1 (by decide) (by decide))).trans (V_arg m c _ (.inr (.inl rfl))),
    ((h c).2 main_arg2 (Pipeline.mem_restRefs_of main_arg2 (by decide) (by decide))).trans (V_arg m c _ (.inr (.inr rfl)))⟩

/-- The frame. -/
theorem frame_run : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c => (arrays_at m r h.1 c).2.2.2.2.2.2.2.2.2.2.2.2.2.2.2.2, h.2⟩) (run_quiet m ρ)

end Cert.Kernel2Ideal.Proj

end
-- ==== Proof.PlainProject.lean ====
/- The printed input projection's frame, from its idealization's: the two programs are one. -/
module

public import proofs.«01_k».proof.Defs
public import proofs.«01_k».proof.Proof.Gen.Kernel2
public import proofs.«01_k».proof.Proof.Launch2

@[expose] public section

set_option maxRecDepth 16384

noncomputable section

namespace Cert.PlainProject

open Idealize.ShloMosaic Idealize.ShloMosaic.TcCoe Idealize.SL.Sem

instance : Cert.Kernel2.Facts := Cert.Kernel2.Gen.facts
instance : Cert.Kernel2Ideal.Facts := Cert.Kernel2Ideal.Gen.facts

/-- The idealization's frame, read at the machine's floats. -/
def FrameBits : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r =>
      (∀ c : Dev Cert.Kernel2Ideal.nD,
        r.2.mem ((c.tc : Thread Cert.Kernel2Ideal.nD Cert.Kernel2Ideal.τ).loc Cert.Kernel2Ideal.main_arg0) = m ((c.tc : Thread _ _).loc Cert.Kernel2Ideal.main_arg0)
        ∧ r.2.mem ((c.tc : Thread Cert.Kernel2Ideal.nD Cert.Kernel2Ideal.τ).loc Cert.Kernel2Ideal.main_arg1) = m ((c.tc : Thread _ _).loc Cert.Kernel2Ideal.main_arg1)
        ∧ r.2.mem ((c.tc : Thread Cert.Kernel2Ideal.nD Cert.Kernel2Ideal.τ).loc Cert.Kernel2Ideal.main_arg2) = m ((c.tc : Thread _ _).loc Cert.Kernel2Ideal.main_arg2))
      ∧ r.2.sem = fun _ => 0)

theorem frame_same : Cert.quiescent_Kernel2 (hKernel2 := Cert.Kernel2.Gen.facts) = FrameBits := by
  sl_kernel_rfl

theorem frame_plain : Cert.quiescent_Kernel2 (hKernel2 := Cert.Kernel2.Gen.facts) :=
  frame_same.mpr fun m g _ => Cert.Kernel2Ideal.Proj.frame_run (F := Bits) m g

end Cert.PlainProject

end
-- ==== Proof.Columns.lean ====
/- The normed input projection: sixteen products of the normalised rows with column ranges of one weight; what one grid point stores. -/
module

public import proofs.«01_k».proof.Proof.Launch2
public import proofs.«01_k».proof.Proof.Normed
public import Idealize.ShloMosaic.Lib.Pointwise
public import Idealize.ShloMosaic.Lib.Pipeline.ValueKit

@[expose] public section

set_option maxRecDepth 16384

noncomputable section

namespace Cert.Split

open Idealize.ShloMosaic Idealize.ShloMosaic.TcCoe
open Cert.Kernel2Ideal Cert.Kernel2Ideal.Gen Cert.Kernel2Ideal.Proj Cert.Normed

/-! ## The results -/

/-- Row `n` of the input. -/
def rowAt (x : Vec Ideal S32768x1024 .f32) (n : ℕ) (k : Fin 1024) : EReal := if h : n < 32768 then x (ix2 ⟨n, h⟩ k) else 0
/-- Column `a` of the weight, and zeros past its last column. -/
def colAt (w : Vec Ideal S1024x3132 .f32) (a : ℕ) (k : Fin 1024) : EReal := if h : a < 3132 then w (ix2 k ⟨a, h⟩) else 0
/-- The normalised row `n` against column `a`. -/
def proj (x : Vec Ideal S32768x1024 .f32) (g : Vec Ideal S1024 .f32) (w : Vec Ideal S1024x3132 .f32) (n a : ℕ) : EReal :=
  ∑ k : Fin 1024, normed (rowAt x n) (fun k => g (ix1 k)) k * colAt w a k

/-- The weight's column for column `j` of a result whose 64 columns are followed by 64 more, which have none. -/
def padded (a j : ℕ) : ℕ := if j < 64 then a + j else 3132
/-- The weight's column for column `j` of the last result: four short ranges side by side, and then none. -/
def small (j : ℕ) : ℕ :=
  if j < 12 then 640 + j else if j < 20 then 1420 + (j - 12) else if j < 28 then 2452 + (j - 20) else if j < 60 then 3100 + (j - 28) else 3132
/-- One in column 64. -/
def one64 (j : ℕ) : EReal := if j = 64 then 1 else 0

variable (m : (ℓ : Loc nD τ sig) → Buf (Elt Ideal) ℓ) (c : Dev nD)
abbrev X : Vec Ideal S32768x1024 .f32 := m ((c : Thread nD τ).loc main_arg0)
abbrev G : Vec Ideal S1024 .f32 := m ((c : Thread nD τ).loc main_arg1)
abbrev W : Vec Ideal S1024x3132 .f32 := m ((c : Thread nD τ).loc main_arg2)

/-! ## The weights that the host cuts -/

theorem col_eq (w : Vec Ideal S1024x3132 .f32) {a b : ℕ} (h : a < 3132) (e : b = a) (k : Fin 1024) : w (ix2 k ⟨a, h⟩) = colAt w b k := by
  subst e
  rw [colAt, dif_pos h]

theorem col_zero (w : Vec Ideal S1024x3132 .f32) {b : ℕ} (e : b = 3132) (k : Fin 1024) :
    (FloatOps.sitofp (F := Ideal) .bf16 (0#32) : EReal) = colAt w b k := by
  subst e
  refine Eq.trans ?_ (dif_neg (lt_irrefl 3132)).symm
  show (((0#32).toInt : ℝ) : EReal) = 0
  simp

set_option maxHeartbeats 4000000 in
/-- Each is a range of the weight's columns. -/
theorem weights :
    (∀ (k : Fin 1024) (j : Fin 256), (V m c main_v2 : Vec Ideal S1024x256 .bf16) (ix2 k j) = colAt (W m c) (j.val) k) ∧
    (∀ (k : Fin 1024) (j : Fin 64), (V m c main_v4 : Vec Ideal S1024x64 .bf16) (ix2 k j) = colAt (W m c) (256 + j.val) k) ∧
    (∀ (k : Fin 1024) (j : Fin 64), (V m c main_v6 : Vec Ideal S1024x64 .bf16) (ix2 k j) = colAt (W m c) (320 + j.val) k) ∧
    (∀ (k : Fin 1024) (j : Fin 64), (V m c main_v8 : Vec Ideal S1024x64 .bf16) (ix2 k j) = colAt (W m c) (384 + j.val) k) ∧
    (∀ (k : Fin 1024) (j : Fin 128), (V m c main_v10 : Vec Ideal S1024x128 .bf16) (ix2 k j) = colAt (W m c) (padded 448 j.val) k) ∧
    (∀ (k : Fin 1024) (j : Fin 64), (V m c main_v12 : Vec Ideal S1024x64 .bf16) (ix2 k j) = colAt (W m c) (512 + j.val) k) ∧
    (∀ (k : Fin 1024) (j : Fin 128), (V m c main_v14 : Vec Ideal S1024x128 .bf16) (ix2 k j) = colAt (W m c) (padded 576 j.val) k) ∧
    (∀ (k : Fin 1024) (j : Fin 256), (V m c main_v16 : Vec Ideal S1024x256 .bf16) (ix2 k j) = colAt (W m c) (652 + j.val) k) ∧
    (∀ (k : Fin 1024) (j : Fin 256), (V m c main_v18 : Vec Ideal S1024x256 .bf16) (ix2 k j) = colAt (W m c) (908 + j.val) k) ∧
    (∀ (k : Fin 1024) (j : Fin 256), (V m c main_v20 : Vec Ideal S1024x256 .bf16) (ix2 k j) = colAt (W m c) (1164 + j.val) k) ∧
    (∀ (k : Fin 1024) (j : Fin 256), (V m c main_v22 : Vec Ideal S1024x256 .bf16) (ix2 k j) = colAt (W m c) (1428 + j.val) k) ∧
    (∀ (k : Fin 1024) (j : Fin 768), (V m c main_v24 : Vec Ideal S1024x768 .bf16) (ix2 k j) = colAt (W m c) (1684 + j.val) k) ∧
    (∀ (k : Fin 1024) (j : Fin 256), (V m c main_v26 : Vec Ideal S1024x256 .bf16) (ix2 k j) = colAt (W m c) (2460 + j.val) k) ∧
    (∀ (k : Fin 1024) (j : Fin 256), (V m c main_v28 : Vec Ideal S1024x256 .bf16) (ix2 k j) = colAt (W m c) (2716 + j.val) k) ∧
    (∀ (k : Fin 1024) (j : Fin 128), (V m c main_v30 : Vec Ideal S1024x128 .bf16) (ix2 k j) = colAt (W m c) (2972 + j.val) k) ∧
    (∀ (k : Fin 1024) (j : Fin 128), (V m c main_v36 : Vec Ideal S1024x128 .bf16) (ix2 k j) = colAt (W m c) (small j.val) k) := by
  refine ⟨?_, ?_, ?_, ?_, ?_, ?_, ?_, ?_, ?_, ?_, ?_, ?_, ?_, ?_, ?_, ?_⟩
  all_goals intro k j
  all_goals simp only [V, List.flatten_cons, List.flatten_nil, List.append_nil, List.cons_append, List.nil_append]
  all_goals after_results
  all_goals simp only [StableHlo.TRef.toBuf, StableHlo.TRef.ofBuf, cast_eq]
  all_goals pointwise
  all_goals try after_results_simp
  all_goals try pointwise
  all_goals (try unfold padded)
  all_goals (try unfold small)
  all_goals repeat' split
  all_goals first
    | exact col_eq (W m c) _ (by omega) k
    | exact col_zero (W m c) (by omega) k

/-- The gain, as the region finds it. -/
theorem gain (j : Fin 1024) : (V m c main_v37 : Vec Ideal S1x1024 .f32) (ix2 0 j) = G m c (ix1 j) := by
  simp only [V, List.flatten_cons, List.flatten_nil, List.append_nil, List.cons_append, List.nil_append]
  after_results
  pointwise

/-! ## One grid point -/

theorem index (t : Fin cfg0.N) :
    win0_0.index t = ![t.val, 0] ∧
    win0_1.index t = ![0, 0] ∧
    win0_2.index t = ![0, 0] ∧
    win0_3.index t = ![0, 0] ∧
    win0_4.index t = ![0, 0] ∧
    win0_5.index t = ![0, 0] ∧
    win0_6.index t = ![0, 0] ∧
    win0_7.index t = ![0, 0] ∧
    win0_8.index t = ![0, 0] ∧
    win0_9.index t = ![0, 0] ∧
    win0_10.index t = ![0, 0] ∧
    win0_11.index t = ![0, 0] ∧
    win0_12.index t = ![0, 0] ∧
    win0_13.index t = ![0, 0] ∧
    win0_14.index t = ![0, 0] ∧
    win0_15.index t = ![0, 0] ∧
    win0_16.index t = ![0, 0] ∧
    win0_17.index t = ![0, 0] ∧
    win0_18.index t = ![t.val, 0] ∧
    win0_19.index t = ![t.val, 0] ∧
    win0_20.index t = ![t.val, 0] ∧
    win0_21.index t = ![t.val, 0] ∧
    win0_22.index t = ![t.val, 0] ∧
    win0_23.index t = ![t.val, 0] ∧
    win0_24.index t = ![t.val, 0] ∧
    win0_25.index t = ![t.val, 0] ∧
    win0_26.index t = ![t.val, 0] ∧
    win0_27.index t = ![t.val, 0] ∧
    win0_28.index t = ![t.val, 0] ∧
    win0_29.index t = ![t.val, 0] ∧
    win0_30.index t = ![t.val, 0] ∧
    win0_31.index t = ![t.val, 0] ∧
    win0_32.index t = ![t.val, 0] ∧
    win0_33.index t = ![t.val, 0] := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> revert t <;> decide +kernel

theorem zeros : ∀ a : Fin 2, (![0, 0] : Fin 2 → ℕ) a = 0 := by decide

set_option maxHeartbeats 4000000 in
/-- The body reads whole blocks, and those of the gain and of the weights are the buffers themselves; -/
theorem blocks (t : Fin cfg0.N) :
    View.ld (iblk m c 0 t) rx = iblk m c 0 t ∧
    View.ld (iblk m c 1 t) rg = V m c main_v37 ∧
    View.ld (iblk m c 2 t) rw256 = V m c main_v2 ∧
    View.ld (iblk m c 3 t) rw64 = V m c main_v4 ∧
    View.ld (iblk m c 4 t) rw64 = V m c main_v6 ∧
    View.ld (iblk m c 5 t) rw64 = V m c main_v8 ∧
    View.ld (iblk m c 6 t) rw128 = V m c main_v10 ∧
    View.ld (iblk m c 7 t) rw64 = V m c main_v12 ∧
    View.ld (iblk m c 8 t) rw128 = V m c main_v14 ∧
    View.ld (iblk m c 9 t) rw256 = V m c main_v16 ∧
    View.ld (iblk m c 10 t) rw256 = V m c main_v18 ∧
    View.ld (iblk m c 11 t) rw256 = V m c main_v20 ∧
    View.ld (iblk m c 12 t) rw256 = V m c main_v22 ∧
    View.ld (iblk m c 13 t) rw768 = V m c main_v24 ∧
    View.ld (iblk m c 14 t) rw256 = V m c main_v26 ∧
    View.ld (iblk m c 15 t) rw256 = V m c main_v28 ∧
    View.ld (iblk m c 16 t) rw128 = V m c main_v30 ∧
    View.ld (iblk m c 17 t) rw128 = V m c main_v36 := by
  obtain ⟨e0, e1, e2, e3, e4, e5, e6, e7, e8, e9, e10, e11, e12, e13, e14, e15, e16, e17, -⟩ := index t
  refine ⟨View.ld_unit_lit' _ _ zeros, ?_, ?_, ?_, ?_, ?_, ?_, ?_, ?_, ?_, ?_, ?_, ?_, ?_, ?_, ?_, ?_, ?_⟩
  all_goals refine (View.ld_unit_lit' _ _ zeros).trans (funext fun y => ?_)
  all_goals blk_ext [iblk, e1, e2, e3, e4, e5, e6, e7, e8, e9, e10, e11, e12, e13, e14, e15, e16, e17]

/-- and the rows' block at point `t` is 512 rows from `512 t` on. -/
theorem rows (t : Fin cfg0.N) (n : Fin 512) (k : Fin 1024) : (iblk m c 0 t : Vec Ideal S512x1024 .f32) (ix2 n k) = rowAt (X m c) (t.val * 512 + n.val) k := by
  obtain ⟨e0, -⟩ := index t
  have ht : t.val < 64 := t.isLt
  have hn := n.isLt
  refine Eq.trans ?_ (dif_pos (show t.val * 512 + n.val < 32768 by omega)).symm
  blk_ext [iblk, V_arg m c main_arg0 (.inl rfl), e0]

/-- The row `n` of a block, normalised, against a column. -/
def rowdot (x : Vec Ideal S512x1024 .f32) (g : Vec Ideal S1x1024 .f32) (n : Fin 512) (w : Fin 1024 → EReal) : EReal :=
  ∑ k, normed (fun k => x (ix2 n k)) (fun k => g (ix2 0 k)) k * w k

/-- A row of the block at point `t` is that row of the input. -/
theorem rowdot_eq (t : Fin cfg0.N) (n : Fin 512) (a : ℕ) :
    rowdot (iblk m c 0 t) (V m c main_v37) n (fun k => colAt (W m c) a k) = proj (X m c) (G m c) (W m c) (t.val * 512 + n.val) a := by
  unfold rowdot proj
  refine Finset.sum_congr rfl fun k _ => ?_
  exact congrArg₂ (fun x g => normed x g k * colAt (W m c) a k) (funext (rows m c t n)) (funext (gain m c))

theorem one_at (j : Fin 128) : Scalar.select (IntOp.cmpi .eq (BitVec.ofNat 32 j.val) 64#32) (1 : EReal) 0 = one64 j.val := by
  have h : ∀ j : Fin 128, IntOp.cmpi .eq (BitVec.ofNat 32 j.val) 64#32 = if j.val = 64 then 1#1 else 0#1 := by decide +kernel
  rw [h, one64]
  split
  · exact ValueIdx.select_one ..
  · exact ValueIdx.select_zero ..

set_option maxHeartbeats 4000000 in
/-- What the body stores, at an index. -/
theorem payloads (x : Vec Ideal S512x1024 .f32) (g : Vec Ideal S1x1024 .f32) :
    (∀ (w : Vec Ideal S1024x256 .bf16) (y : S512x256.Idx), k0_pay5 x g w y = rowdot x g (y 0) (fun k => w (ix2 k (y 1)))) ∧
    (∀ (w : Vec Ideal S1024x64 .bf16) (y : S512x64.Idx), k0_pay6 x g w y = rowdot x g (y 0) (fun k => w (ix2 k (y 1)))) ∧
    (∀ (w : Vec Ideal S1024x64 .bf16) (y : S512x64.Idx), k0_pay7 x g w y = rowdot x g (y 0) (fun k => w (ix2 k (y 1)))) ∧
    (∀ (w : Vec Ideal S1024x64 .bf16) (y : S512x64.Idx), k0_pay9 (k0_pay8 x g w) y = rowdot x g (y 0) (fun k => w (ix2 k (y 1)))) ∧
    (∀ (w : Vec Ideal S1024x128 .bf16) (y : S512x128.Idx), k0_pay10 (k0_pay4 x g) w y = rowdot x g (y 0) (fun k => w (ix2 k (y 1))) + one64 (y 1).val) ∧
    (∀ (w : Vec Ideal S1024x64 .bf16) (y : S512x64.Idx), k0_pay11 (k0_pay4 x g) w y = rowdot x g (y 0) (fun k => w (ix2 k (y 1)))) ∧
    (∀ (w : Vec Ideal S1024x128 .bf16) (y : S512x128.Idx), k0_pay12 (k0_pay4 x g) w y = rowdot x g (y 0) (fun k => w (ix2 k (y 1))) + one64 (y 1).val) ∧
    (∀ (w : Vec Ideal S1024x256 .bf16) (y : S512x256.Idx), k0_pay13 (k0_pay4 x g) w y = rowdot x g (y 0) (fun k => w (ix2 k (y 1)))) ∧
    (∀ (w : Vec Ideal S1024x256 .bf16) (y : S512x256.Idx), k0_pay14 (k0_pay4 x g) w y = rowdot x g (y 0) (fun k => w (ix2 k (y 1)))) ∧
    (∀ (w : Vec Ideal S1024x256 .bf16) (y : S512x256.Idx), k0_pay15 (k0_pay4 x g) w y = rowdot x g (y 0) (fun k => w (ix2 k (y 1)))) ∧
    (∀ (w : Vec Ideal S1024x256 .bf16) (y : S512x256.Idx), k0_pay16 (k0_pay4 x g) w y = rowdot x g (y 0) (fun k => w (ix2 k (y 1)))) ∧
    (∀ (w : Vec Ideal S1024x768 .bf16) (y : S512x768.Idx), k0_pay17 (k0_pay4 x g) w y = rowdot x g (y 0) (fun k => w (ix2 k (y 1)))) ∧
    (∀ (w : Vec Ideal S1024x256 .bf16) (y : S512x256.Idx), k0_pay18 (k0_pay4 x g) w y = rowdot x g (y 0) (fun k => w (ix2 k (y 1)))) ∧
    (∀ (w : Vec Ideal S1024x256 .bf16) (y : S512x256.Idx), k0_pay1 (k0_pay4 x g) w y = rowdot x g (y 0) (fun k => w (ix2 k (y 1)))) ∧
    (∀ (w : Vec Ideal S1024x128 .bf16) (y : S512x128.Idx), k0_pay2 (k0_pay4 x g) w y = rowdot x g (y 0) (fun k => w (ix2 k (y 1)))) ∧
    (∀ (w : Vec Ideal S1024x128 .bf16) (y : S512x128.Idx), k0_pay3 (k0_pay4 x g) w y = rowdot x g (y 0) (fun k => w (ix2 k (y 1)))) := by
  refine ⟨?_, ?_, ?_, ?_, ?_, ?_, ?_, ?_, ?_, ?_, ?_, ?_, ?_, ?_, ?_, ?_⟩
  all_goals intro w y
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, rowdot, normed]
  all_goals exact congrArg _ (one_at _)

end Cert.Split

end
-- ==== Proof.Split.lean ====
/- The normed input projection's sixteen arrays, as the launch leaves them. -/
module

public import proofs.«01_k».proof.Proof.Columns

@[expose] public section

set_option maxRecDepth 16384

noncomputable section

namespace Cert.Split

open Idealize.ShloMosaic Idealize.ShloMosaic.TcCoe
open Cert.Kernel2Ideal Cert.Kernel2Ideal.Gen Cert.Kernel2Ideal.Proj Cert.Normed

variable (m : (ℓ : Loc nD τ sig) → Buf (Elt Ideal) ℓ) (c : Dev nD)

/-- What grid point `t` stores, at an index. -/
theorem stored (t : Fin cfg0.N) :
    (∀ y : S512x256.Idx, k0_pay5 (iblk m c 0 t) (V m c main_v37) (V m c main_v2) y = proj (X m c) (G m c) (W m c) (t.val * 512 + (y 0).val) ((y 1).val)) ∧
    (∀ y : S512x64.Idx, k0_pay6 (iblk m c 0 t) (V m c main_v37) (V m c main_v4) y = proj (X m c) (G m c) (W m c) (t.val * 512 + (y 0).val) (256 + (y 1).val)) ∧
    (∀ y : S512x64.Idx, k0_pay7 (iblk m c 0 t) (V m c main_v37) (V m c main_v6) y = proj (X m c) (G m c) (W m c) (t.val * 512 + (y 0).val) (320 + (y 1).val)) ∧
    (∀ y : S512x64.Idx, k0_pay9 (k0_pay8 (iblk m c 0 t) (V m c main_v37) (V m c main_v8)) y = proj (X m c) (G m c) (W m c) (t.val * 512 + (y 0).val) (384 + (y 1).val)) ∧
    (∀ y : S512x128.Idx, k0_pay10 (k0_pay4 (iblk m c 0 t) (V m c main_v37)) (V m c main_v10) y = proj (X m c) (G m c) (W m c) (t.val * 512 + (y 0).val) (padded 448 (y 1).val) + one64 (y 1).val) ∧
    (∀ y : S512x64.Idx, k0_pay11 (k0_pay4 (iblk m c 0 t) (V m c main_v37)) (V m c main_v12) y = proj (X m c) (G m c) (W m c) (t.val * 512 + (y 0).val) (512 + (y 1).val)) ∧
    (∀ y : S512x128.Idx, k0_pay12 (k0_pay4 (iblk m c 0 t) (V m c main_v37)) (V m c main_v14) y = proj (X m c) (G m c) (W m c) (t.val * 512 + (y 0).val) (padded 576 (y 1).val) + one64 (y 1).val) ∧
    (∀ y : S512x256.Idx, k0_pay13 (k0_pay4 (iblk m c 0 t) (V m c main_v37)) (V m c main_v16) y = proj (X m c) (G m c) (W m c) (t.val * 512 + (y 0).val) (652 + (y 1).val)) ∧
    (∀ y : S512x256.Idx, k0_pay14 (k0_pay4 (iblk m c 0 t) (V m c main_v37)) (V m c main_v18) y = proj (X m c) (G m c) (W m c) (t.val * 512 + (y 0).val) (908 + (y 1).val)) ∧
    (∀ y : S512x256.Idx, k0_pay15 (k0_pay4 (iblk m c 0 t) (V m c main_v37)) (V m c main_v20) y = proj (X m c) (G m c) (W m c) (t.val * 512 + (y 0).val) (1164 + (y 1).val)) ∧
    (∀ y : S512x256.Idx, k0_pay16 (k0_pay4 (iblk m c 0 t) (V m c main_v37)) (V m c main_v22) y = proj (X m c) (G m c) (W m c) (t.val * 512 + (y 0).val) (1428 + (y 1).val)) ∧
    (∀ y : S512x768.Idx, k0_pay17 (k0_pay4 (iblk m c 0 t) (V m c main_v37)) (V m c main_v24) y = proj (X m c) (G m c) (W m c) (t.val * 512 + (y 0).val) (1684 + (y 1).val)) ∧
    (∀ y : S512x256.Idx, k0_pay18 (k0_pay4 (iblk m c 0 t) (V m c main_v37)) (V m c main_v26) y = proj (X m c) (G m c) (W m c) (t.val * 512 + (y 0).val) (2460 + (y 1).val)) ∧
    (∀ y : S512x256.Idx, k0_pay1 (k0_pay4 (iblk m c 0 t) (V m c main_v37)) (V m c main_v28) y = proj (X m c) (G m c) (W m c) (t.val * 512 + (y 0).val) (2716 + (y 1).val)) ∧
    (∀ y : S512x128.Idx, k0_pay2 (k0_pay4 (iblk m c 0 t) (V m c main_v37)) (V m c main_v30) y = proj (X m c) (G m c) (W m c) (t.val * 512 + (y 0).val) (2972 + (y 1).val)) ∧
    (∀ y : S512x128.Idx, k0_pay3 (k0_pay4 (iblk m c 0 t) (V m c main_v37)) (V m c main_v36) y = proj (X m c) (G m c) (W m c) (t.val * 512 + (y 0).val) (small (y 1).val)) := by
  obtain ⟨p18, p19, p20, p21, p22, p23, p24, p25, p26, p27, p28, p29, p30, p31, p32, p33⟩ := payloads (iblk m c 0 t) (V m c main_v37)
  obtain ⟨q18, q19, q20, q21, q22, q23, q24, q25, q26, q27, q28, q29, q30, q31, q32, q33⟩ := weights m c
  have dot : ∀ (n : Fin 512) (a : ℕ) (w : Fin 1024 → EReal), (∀ k, w k = colAt (W m c) a k) →
      rowdot (iblk m c 0 t) (V m c main_v37) n w = proj (X m c) (G m c) (W m c) (t.val * 512 + n.val) a :=
    fun n a w h => (congrArg _ (funext h)).trans (rowdot_eq m c t n a)
  have plus : ∀ (n : Fin 512) (a : ℕ) (w : Fin 1024 → EReal) (j : ℕ), (∀ k, w k = colAt (W m c) a k) →
      rowdot (iblk m c 0 t) (V m c main_v37) n w + one64 j = proj (X m c) (G m c) (W m c) (t.val * 512 + n.val) a + one64 j :=
    fun n a w j h => congrArg (· + one64 j) (dot n a w h)
  exact ⟨fun y => (p18 _ y).trans (dot _ _ _ fun k => q18 k (y 1)), fun y => (p19 _ y).trans (dot _ _ _ fun k => q19 k (y 1)), fun y => (p20 _ y).trans (dot _ _ _ fun k => q20 k (y 1)), fun y => (p21 _ y).trans (dot _ _ _ fun k => q21 k (y 1)), fun y => (p22 _ y).trans (plus _ _ _ _ fun k => q22 k (y 1)), fun y => (p23 _ y).trans (dot _ _ _ fun k => q23 k (y 1)), fun y => (p24 _ y).trans (plus _ _ _ _ fun k => q24 k (y 1)), fun y => (p25 _ y).trans (dot _ _ _ fun k => q25 k (y 1)), fun y => (p26 _ y).trans (dot _ _ _ fun k => q26 k (y 1)), fun y => (p27 _ y).trans (dot _ _ _ fun k => q27 k (y 1)), fun y => (p28 _ y).trans (dot _ _ _ fun k => q28 k (y 1)), fun y => (p29 _ y).trans (dot _ _ _ fun k => q29 k (y 1)), fun y => (p30 _ y).trans (dot _ _ _ fun k => q30 k (y 1)), fun y => (p31 _ y).trans (dot _ _ _ fun k => q31 k (y 1)), fun y => (p32 _ y).trans (dot _ _ _ fun k => q32 k (y 1)), fun y => (p33 _ y).trans (dot _ _ _ fun k => q33 k (y 1))⟩

set_option maxHeartbeats 4000000 in
/-- Each is the normalised rows against its range of the weight's columns. -/
theorem arrays_eq :
    (dats m 0 c).arrAt 18 cfg0.N = (fun i : S32768x256.Idx => proj (X m c) (G m c) (W m c) (i 0).val ((i 1).val)) ∧
    (dats m 0 c).arrAt 19 cfg0.N = (fun i : S32768x64.Idx => proj (X m c) (G m c) (W m c) (i 0).val (256 + (i 1).val)) ∧
    (dats m 0 c).arrAt 20 cfg0.N = (fun i : S32768x64.Idx => proj (X m c) (G m c) (W m c) (i 0).val (320 + (i 1).val)) ∧
    (dats m 0 c).arrAt 21 cfg0.N = (fun i : S32768x64.Idx => proj (X m c) (G m c) (W m c) (i 0).val (384 + (i 1).val)) ∧
    (dats m 0 c).arrAt 22 cfg0.N = (fun i : S32768x128.Idx => proj (X m c) (G m c) (W m c) (i 0).val (padded 448 (i 1).val) + one64 (i 1).val) ∧
    (dats m 0 c).arrAt 23 cfg0.N = (fun i : S32768x64.Idx => proj (X m c) (G m c) (W m c) (i 0).val (512 + (i 1).val)) ∧
    (dats m 0 c).arrAt 24 cfg0.N = (fun i : S32768x128.Idx => proj (X m c) (G m c) (W m c) (i 0).val (padded 576 (i 1).val) + one64 (i 1).val) ∧
    (dats m 0 c).arrAt 25 cfg0.N = (fun i : S32768x256.Idx => proj (X m c) (G m c) (W m c) (i 0).val (652 + (i 1).val)) ∧
    (dats m 0 c).arrAt 26 cfg0.N = (fun i : S32768x256.Idx => proj (X m c) (G m c) (W m c) (i 0).val (908 + (i 1).val)) ∧
    (dats m 0 c).arrAt 27 cfg0.N = (fun i : S32768x256.Idx => proj (X m c) (G m c) (W m c) (i 0).val (1164 + (i 1).val)) ∧
    (dats m 0 c).arrAt 28 cfg0.N = (fun i : S32768x256.Idx => proj (X m c) (G m c) (W m c) (i 0).val (1428 + (i 1).val)) ∧
    (dats m 0 c).arrAt 29 cfg0.N = (fun i : S32768x768.Idx => proj (X m c) (G m c) (W m c) (i 0).val (1684 + (i 1).val)) ∧
    (dats m 0 c).arrAt 30 cfg0.N = (fun i : S32768x256.Idx => proj (X m c) (G m c) (W m c) (i 0).val (2460 + (i 1).val)) ∧
    (dats m 0 c).arrAt 31 cfg0.N = (fun i : S32768x256.Idx => proj (X m c) (G m c) (W m c) (i 0).val (2716 + (i 1).val)) ∧
    (dats m 0 c).arrAt 32 cfg0.N = (fun i : S32768x128.Idx => proj (X m c) (G m c) (W m c) (i 0).val (2972 + (i 1).val)) ∧
    (dats m 0 c).arrAt 33 cfg0.N = (fun i : S32768x128.Idx => proj (X m c) (G m c) (W m c) (i 0).val (small (i 1).val)) := by
  refine ⟨?_, ?_, ?_, ?_, ?_, ?_, ?_, ?_, ?_, ?_, ?_, ?_, ?_, ?_, ?_, ?_⟩
  all_goals refine (dats m 0 c).arrAt_eq_of_covers _ _ (by decide +kernel) fun t hf y => ?_
  all_goals first | change S512x64.Idx at y | change S512x128.Idx at y | change S512x256.Idx at y | change S512x768.Idx at y
  all_goals blk_simp
  all_goals obtain ⟨-, -, -, -, -, -, -, -, -, -, -, -, -, -, -, -, -, -, a18, a19, a20, a21, a22, a23, a24, a25, a26, a27, a28, a29, a30, a31, a32, a33⟩ := after_at m c t
  all_goals simp only [a18, a19, a20, a21, a22, a23, a24, a25, a26, a27, a28, a29, a30, a31, a32, a33]
  all_goals clear a18 a19 a20 a21 a22 a23 a24 a25 a26 a27 a28 a29 a30 a31 a32 a33
  all_goals frame_out
  all_goals obtain ⟨lx, lg, b18, b19, b20, b21, b22, b23, b24, b25, b26, b27, b28, b29, b30, b31, b32, b33⟩ := blocks m c t
  all_goals simp only [lx, lg, b18, b19, b20, b21, b22, b23, b24, b25, b26, b27, b28, b29, b30, b31, b32, b33]
  all_goals clear lx lg b18 b19 b20 b21 b22 b23 b24 b25 b26 b27 b28 b29 b30 b31 b32 b33
  all_goals obtain ⟨-, -, -, -, -, -, -, -, -, -, -, -, -, -, -, -, -, -, e18, e19, e20, e21, e22, e23, e24, e25, e26, e27, e28, e29, e30, e31, e32, e33⟩ := index t
  all_goals simp only [e18, e19, e20, e21, e22, e23, e24, e25, e26, e27, e28, e29, e30, e31, e32, e33, Matrix.cons_val_zero, Matrix.cons_val_one, zero_mul, zero_add]
  all_goals clear e18 e19 e20 e21 e22 e23 e24 e25 e26 e27 e28 e29 e30 e31 e32 e33
  all_goals obtain ⟨s18, s19, s20, s21, s22, s23, s24, s25, s26, s27, s28, s29, s30, s31, s32, s33⟩ := stored m c t
  all_goals simp only [s18, s19, s20, s21, s22, s23, s24, s25, s26, s27, s28, s29, s30, s31, s32, s33]

end Cert.Split

end
-- ==== Proof.Parts.lean ====
/- The reference's sixteen arrays: the same column ranges of the product of the normalised rows with the whole weight. -/
module

public import proofs.«01_k».proof.Proof.Columns
public import proofs.«01_k».proof.Proof.Gen.Reference2Ideal.Read

@[expose] public section

set_option maxRecDepth 16384

noncomputable section

namespace Cert.Split

open Idealize.ShloMosaic Idealize.ShloMosaic.TcCoe
open Cert.Reference2Ideal Cert.Reference2Ideal.Read Cert.Normed

/-- The product of the normalised rows with the weight, at an index. -/
theorem product_at (x : Vec Ideal S32768x1024 .f32) (g : Vec Ideal S1024 .f32) (w : Vec Ideal S1024x3132 .f32) (n : Fin 32768) {a : ℕ} (h : a < 3132) :
    val_main_v13 (F := Ideal) x g w (ix2 n ⟨a, h⟩) = proj x g w n.val a := by
  rw [val_main_v13_apply]
  refine Finset.sum_congr rfl fun k _ => ?_
  have ei : lidx_main_v13 (ix2 n ⟨a, h⟩) k = ix2 n k := funext fun b => by fin_cases b <;> rfl
  have ew : ridx_main_v13 (ix2 n ⟨a, h⟩) k = ix2 k ⟨a, h⟩ := funext fun b => by fin_cases b <;> rfl
  rw [ei, ew]
  refine congrArg₂ (· * ·) ((host_at x g n k).trans ?_) (col_eq w h rfl k)
  refine congrArg (fun x => normed x _ k) (funext fun k => ?_)
  rw [rowAt, dif_pos n.isLt]

/-- An index of two axes is a pair. -/
theorem pair {a b : ℕ} (i : (⟨2, ![a, b]⟩ : Shape).Idx) : ∃ n j, i = ix2 n j := ⟨_, _, ValueIdx.eq_ix2 i⟩

/-- A row against no column. -/
theorem proj_none (x : Vec Ideal S32768x1024 .f32) (g : Vec Ideal S1024 .f32) (w : Vec Ideal S1024x3132 .f32) (n : ℕ) : proj x g w n 3132 = 0 := by
  refine Finset.sum_eq_zero fun k _ => ?_
  rw [colAt, dif_neg (lt_irrefl 3132), mul_zero]

/-- Sixty-four columns, a one and sixty-three zeros, side by side. -/
theorem beside_ones (f : ℕ → EReal) (hf : f 3132 = 0) (a j : ℕ) :
    (if h : j < 64 then f (a + j) else if h : j - 64 < 1 then 1 else 0) = f (padded a j) + one64 j := by
  unfold padded one64
  by_cases h : j < 64
  · rw [dif_pos h, if_pos h, if_neg (by omega), add_zero]
  · rw [dif_neg h, if_neg h, hf, zero_add]
    split <;> split <;> first | rfl | omega

/-- Four short ranges and zeros, side by side. -/
theorem beside_zeros (f : ℕ → EReal) (hf : f 3132 = 0) (j : ℕ) :
    (if h : j < 60 then if h : j < 12 then f (640 + j) else if h : j - 12 < 8 then f (652 + (768 + (j - 12)))
      else if h : j - 12 - 8 < 8 then f (1684 + (768 + (j - 12 - 8))) else f (2716 + (384 + (j - 12 - 8 - 8))) else 0) = f (small j) := by
  unfold small
  repeat' split
  all_goals first
    | omega
    | exact hf.symm
    | exact congrArg f (by omega)

set_option maxHeartbeats 4000000 in
/-- Each is the normalised rows against its range of the weight's columns. -/
theorem reference_eq (x : Vec Ideal S32768x1024 .f32) (g : Vec Ideal S1024 .f32) (w : Vec Ideal S1024x3132 .f32) :
    val_main_v18 (F := Ideal) x g w = (fun i : S32768x256.Idx => proj x g w (i 0).val ((i 1).val)) ∧
    val_main_v19 (F := Ideal) x g w = (fun i : S32768x64.Idx => proj x g w (i 0).val (256 + (i 1).val)) ∧
    val_main_v20 (F := Ideal) x g w = (fun i : S32768x64.Idx => proj x g w (i 0).val (320 + (i 1).val)) ∧
    val_main_v43 (F := Ideal) x g w = (fun i : S32768x64.Idx => proj x g w (i 0).val (384 + (i 1).val)) ∧
    val_main_v45 (F := Ideal) x g w = (fun i : S32768x128.Idx => proj x g w (i 0).val (padded 448 (i 1).val) + one64 (i 1).val) ∧
    val_main_v46 (F := Ideal) x g w = (fun i : S32768x64.Idx => proj x g w (i 0).val (512 + (i 1).val)) ∧
    val_main_v48 (F := Ideal) x g w = (fun i : S32768x128.Idx => proj x g w (i 0).val (padded 576 (i 1).val) + one64 (i 1).val) ∧
    val_main_v26 (F := Ideal) x g w = (fun i : S32768x256.Idx => proj x g w (i 0).val (652 + (i 1).val)) ∧
    val_main_v27 (F := Ideal) x g w = (fun i : S32768x256.Idx => proj x g w (i 0).val (908 + (i 1).val)) ∧
    val_main_v28 (F := Ideal) x g w = (fun i : S32768x256.Idx => proj x g w (i 0).val (1164 + (i 1).val)) ∧
    val_main_v30 (F := Ideal) x g w = (fun i : S32768x256.Idx => proj x g w (i 0).val (1428 + (i 1).val)) ∧
    val_main_v31 (F := Ideal) x g w = (fun i : S32768x768.Idx => proj x g w (i 0).val (1684 + (i 1).val)) ∧
    val_main_v33 (F := Ideal) x g w = (fun i : S32768x256.Idx => proj x g w (i 0).val (2460 + (i 1).val)) ∧
    val_main_v34 (F := Ideal) x g w = (fun i : S32768x256.Idx => proj x g w (i 0).val (2716 + (i 1).val)) ∧
    val_main_v35 (F := Ideal) x g w = (fun i : S32768x128.Idx => proj x g w (i 0).val (2972 + (i 1).val)) ∧
    val_main_v42 (F := Ideal) x g w = (fun i : S32768x128.Idx => proj x g w (i 0).val (small (i 1).val)) := by
  refine ⟨?_, ?_, ?_, ?_, ?a, ?_, ?b, ?_, ?_, ?_, ?_, ?_, ?_, ?_, ?_, ?c⟩
  all_goals funext i
  all_goals obtain ⟨n, j, rfl⟩ := pair i
  all_goals pointwise [val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst_2, val_main_cst_3, val_main_cst_4]
  all_goals simp only [product_at]
  case a => exact beside_ones (proj x g w n.val) (proj_none x g w _) 448 j.val
  case b => exact beside_ones (proj x g w n.val) (proj_none x g w _) 576 j.val
  case c => exact beside_zeros (proj x g w n.val) (proj_none x g w _) j.val
  all_goals exact congrArg (proj x g w n.val) (by omega)

end Cert.Split

end
-- ==== Proof.lean ====
/- The claims about the calls, put together. -/
module

public import proofs.«01_k».proof.Defs
public import proofs.«01_k».proof.Proof.Gen.ReferenceIdeal.Run
public import proofs.«01_k».proof.Proof.Gen.ReferenceIdeal.Read
public import proofs.«01_k».proof.Proof.Plain
public import proofs.«01_k».proof.Proof.Array
public import proofs.«01_k».proof.Proof.Reference
public import proofs.«01_k».proof.Proof.Pre
public import proofs.«01_k».proof.Proof.Mix
public import proofs.«01_k».proof.Proof.Norm
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.PlainProject
public import proofs.«01_k».proof.Proof.Split
public import proofs.«01_k».proof.Proof.Parts
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import Idealize.ShloMosaic.Lib.Quiescent
public import Idealize.ShloMosaic.Lib.Claim

@[expose] public section

noncomputable section

namespace Cert.Proof

open Idealize.ShloMosaic Idealize.ShloMosaic.TcCoe Idealize.SL.Sem
open Cert.KernelIdeal.Att (attArray Q0 K0 V0)

/-- The reference's run keeps its arguments, and it declares no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

theorem frame_reference2 : Cert.quiescent_Reference2Ideal (hReference2Ideal := Cert.Reference2Ideal.Gen.facts) := fun m g _ =>
  (θ_run _ _ _).mono (fun r h => ⟨fun c => (h c).2.2.2.2.2.2.2.2.2.2.2.2.2.2.2.2, sem_eq_zero_of_no_sems (by decide) r.2⟩) (Cert.Reference2Ideal.Value.run m g)

theorem frame_reference3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

theorem frame_reference4 : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

theorem mask_constant : Cert.preserves_Kernel_KernelIdeal := IdealRules.named_const.statement _ _ _ _ _ rfl

/-- Both programs end with the masked softmax attention of the arguments. -/
theorem same_attention : Cert.algebraic_KernelIdeal_ReferenceIdeal_pre_finite_with_ones (hKernelIdeal := Cert.KernelIdeal.Gen.facts)
    (hReferenceIdeal := Cert.ReferenceIdeal.Gen.facts) (hPre_finite_with_ones := Cert.Pre_finite_with_ones.facts) := fun m g m' g' hpre hargs => by
  have fq := fun c => Cert.Pre_finite_with_ones.real_queries _ _ _ (hpre c).1
  have fk := fun c => Cert.Pre_finite_with_ones.real_keys _ _ _ (hpre c).2.1
  have ones := fun c => Cert.Pre_finite_with_ones.ones_at _ _ _ (hpre c).2.2
  refine ⟨fun c => attArray (Q0 m c) (K0 m c) (V0 m c), ?_, ?_⟩
  · refine (θ_run _ _ _).mono (fun r h c => ⟨(h.1 c).trans ?_, h.2.1 c⟩) (θ_run_and (Cert.KernelIdeal.Att.result_run m g) (Cert.KernelIdeal.Att.frame_run m g))
    exact Cert.KernelIdeal.Att.array_eq m c (fq c) (fk c) (ones c)
  · refine (θ_run _ _ _).mono (fun r h c => ⟨(h c).1.trans ?_, (h c).2⟩) (Cert.ReferenceIdeal.Value.run m' g')
    rw [Cert.ReferenceIdeal.Read.val_main_v32_eq, (hargs c).1, (hargs c).2.1, (hargs c).2.2]
    exact Cert.ReferenceIdeal.Att.reference_eq _ _ _ (fq c) (fk c)

open Cert.Kernel2Ideal (cfg0) in
open Cert.Kernel2Ideal.Proj (dats) in
open Cert.Reference2Ideal.Read in
set_option maxHeartbeats 4000000 in
/-- Both programs end with the normalised rows' products with the weight's columns, in the sixteen parts. -/
theorem same_project : Cert.algebraic_Kernel2Ideal_Reference2Ideal (hKernel2Ideal := Cert.Kernel2Ideal.Gen.facts)
    (hReference2Ideal := Cert.Reference2Ideal.Gen.facts) := fun m g m' g' _ hargs => by
  refine ⟨fun c => (dats m 0 c).arrAt 18 cfg0.N, fun c => (dats m 0 c).arrAt 19 cfg0.N, fun c => (dats m 0 c).arrAt 20 cfg0.N, fun c => (dats m 0 c).arrAt 21 cfg0.N,
    fun c => (dats m 0 c).arrAt 22 cfg0.N, fun c => (dats m 0 c).arrAt 23 cfg0.N, fun c => (dats m 0 c).arrAt 24 cfg0.N, fun c => (dats m 0 c).arrAt 25 cfg0.N,
    fun c => (dats m 0 c).arrAt 26 cfg0.N, fun c => (dats m 0 c).arrAt 27 cfg0.N, fun c => (dats m 0 c).arrAt 28 cfg0.N, fun c => (dats m 0 c).arrAt 29 cfg0.N,
    fun c => (dats m 0 c).arrAt 30 cfg0.N, fun c => (dats m 0 c).arrAt 31 cfg0.N, fun c => (dats m 0 c).arrAt 32 cfg0.N, fun c => (dats m 0 c).arrAt 33 cfg0.N, ?_, ?_⟩
  · exact (θ_run _ _ _).mono (fun r h c => Cert.Kernel2Ideal.Proj.arrays_at m r h.1 c) (Cert.Kernel2Ideal.Proj.run_quiet m g)
  · refine (θ_run _ _ _).mono (fun r h c => ?_) (Cert.Reference2Ideal.Value.run m' g')
    obtain ⟨h0, h1, h2⟩ := hargs c
    have a := Cert.Split.arrays_eq m c
    rw [show Cert.Split.X m c = _ from h0.symm, show Cert.Split.G m c = _ from h1.symm, show Cert.Split.W m c = _ from h2.symm] at a
    obtain ⟨a0, a1, a2, a3, a4, a5, a6, a7, a8, a9, a10, a11, a12, a13, a14, a15⟩ := a
    obtain ⟨e0, e1, e2, e3, e4, e5, e6, e7, e8, e9, e10, e11, e12, e13, e14, e15⟩ := Cert.Split.reference_eq (m' ((c.tc : Thread Cert.Reference2Ideal.nD Cert.Reference2Ideal.τ).loc Cert.Reference2Ideal.main_arg0))
      (m' ((c.tc : Thread _ _).loc Cert.Reference2Ideal.main_arg1)) (m' ((c.tc : Thread _ _).loc Cert.Reference2Ideal.main_arg2))
    obtain ⟨r0, r1, r2, r3, r4, r5, r6, r7, r8, r9, r10, r11, r12, r13, r14, r15, kept⟩ := h c
    exact ⟨r0.trans ((val_main_v18_eq _ _ _).trans (e0.trans a0.symm)), r1.trans ((val_main_v19_eq _ _ _).trans (e1.trans a1.symm)),
      r2.trans ((val_main_v20_eq _ _ _).trans (e2.trans a2.symm)), r3.trans ((val_main_v43_eq _ _ _).trans (e3.trans a3.symm)),
      r4.trans ((val_main_v45_eq _ _ _).trans (e4.trans a4.symm)), r5.trans ((val_main_v46_eq _ _ _).trans (e5.trans a5.symm)),
      r6.trans ((val_main_v48_eq _ _ _).trans (e6.trans a6.symm)), r7.trans ((val_main_v26_eq _ _ _).trans (e7.trans a7.symm)),
      r8.trans ((val_main_v27_eq _ _ _).trans (e8.trans a8.symm)), r9.trans ((val_main_v28_eq _ _ _).trans (e9.trans a9.symm)),
      r10.trans ((val_main_v30_eq _ _ _).trans (e10.trans a10.symm)), r11.trans ((val_main_v31_eq _ _ _).trans (e11.trans a11.symm)),
      r12.trans ((val_main_v33_eq _ _ _).trans (e12.trans a12.symm)), r13.trans ((val_main_v34_eq _ _ _).trans (e13.trans a13.symm)),
      r14.trans ((val_main_v35_eq _ _ _).trans (e14.trans a14.symm)), r15.trans ((val_main_v42_eq m' c).trans (e15.trans a15.symm)), kept⟩

/-- Both programs end with the residual plus the four groups' product. -/
theorem same_mix : Cert.algebraic_Kernel3Ideal_Reference3Ideal (hKernel3Ideal := Cert.Kernel3Ideal.Gen.facts)
    (hReference3Ideal := Cert.Reference3Ideal.Gen.facts) := fun m g m' g' _ hargs => by
  refine ⟨fun c => Cert.Mix.mixed (m ((c.tc : Thread Cert.Kernel3Ideal.nD Cert.Kernel3Ideal.τ).loc Cert.Kernel3Ideal.main_arg0)) (m ((c.tc : Thread _ _).loc Cert.Kernel3Ideal.main_arg1))
    (m ((c.tc : Thread _ _).loc Cert.Kernel3Ideal.main_arg2)) (m ((c.tc : Thread _ _).loc Cert.Kernel3Ideal.main_arg3))
    (m ((c.tc : Thread _ _).loc Cert.Kernel3Ideal.main_arg4)) (m ((c.tc : Thread _ _).loc Cert.Kernel3Ideal.main_arg5)), ?_, ?_⟩
  · exact (θ_run _ _ _).mono (fun r h c => ⟨(h c).1.trans (Cert.Mix.array_eq m c), (h c).2⟩) (Cert.Kernel3Ideal.Value.run_blocks m g)
  · refine (θ_run _ _ _).mono (fun r h c => ⟨(h c).1.trans ?_, (h c).2⟩) (Cert.Reference3Ideal.Value.run m' g')
    obtain ⟨h0, h1, h2, h3, h4, h5⟩ := hargs c
    rw [Cert.Reference3Ideal.Read.val_main_v2_eq, h0, h1, h2, h3, h4, h5]
    exact Cert.Mix.reference_eq _ _ _ _ _ _

/-- Both programs end with the rows normalised. -/
theorem same_norm : Cert.algebraic_Kernel4Ideal_Reference4Ideal (hKernel4Ideal := Cert.Kernel4Ideal.Gen.facts)
    (hReference4Ideal := Cert.Reference4Ideal.Gen.facts) := fun m g m' g' _ hargs => by
  refine ⟨fun c => Cert.Norm.normedRows (m ((c.tc : Thread Cert.Kernel4Ideal.nD Cert.Kernel4Ideal.τ).loc Cert.Kernel4Ideal.main_arg0)) (m ((c.tc : Thread _ _).loc Cert.Kernel4Ideal.main_arg1)), ?_, ?_⟩
  · exact (θ_run _ _ _).mono (fun r h c => ⟨(h c).1.trans (Cert.Norm.array_eq m c), (h c).2⟩) (Cert.Kernel4Ideal.Value.run_blocks m g)
  · refine (θ_run _ _ _).mono (fun r h c => ⟨(h c).1.trans ?_, (h c).2⟩) (Cert.Reference4Ideal.Value.run m' g')
    rw [Cert.Reference4Ideal.Read.val_main_v12_eq, (hargs c).1, (hargs c).2]
    exact Cert.Norm.reference_eq _ _

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Pre_finite_with_ones.facts,
    Cert.Plain.frame_plain, fun m g _ => Cert.KernelIdeal.Att.frame_run m g, fun m g _ => Cert.KernelIdeal.Att.frame_run m g,
    frame_reference, fun m g _ => frame_reference m g trivial,
    Cert.PlainProject.frame_plain, fun m g _ => Cert.Kernel2Ideal.Proj.frame_run m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    mask_constant, same_attention, trivial, same_project, trivial, same_mix, trivial, same_norm⟩

end Cert.Proof

end
